-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![32768, 512]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S32768x512 : Shape := ⟨2, ![32768, 512]⟩
abbrev S_ : Shape := ⟨0, ![]⟩
abbrev S8 : Shape := ⟨1, ![8]⟩
abbrev S7 : Shape := ⟨1, ![7]⟩
abbrev S1 : Shape := ⟨1, ![1]⟩
abbrev S512x512 : Shape := ⟨2, ![512, 512]⟩

abbrev nBuf : Space → Nat
  | .hbm => 2
  | .vmem => 2
  | .smem => 0
  | _ => 0

abbrev bufTy : (tb : Table) → Fin (tcTables nBuf tb) → BufTy
  | .hbm, ⟨0, _⟩ => ⟨S2048x512, .bf16⟩
  | .hbm, ⟨1, _⟩ => ⟨S32768x512, .bf16⟩
  | .local _ .vmem, ⟨0, _⟩ => ⟨S2048x512, .bf16⟩
  | .local _ .vmem, ⟨1, _⟩ => ⟨S2048x512, .bf16⟩
  | _, _ => ⟨S2048x512, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 122 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | _ => false

abbrev sig : RefSig :=
  (ofTc nBuf bufTy 1 122 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2048_i32 : BitVec 32 := 2048#32
  let v36 : BitVec 32 := Scalar.muli v2 c2048_i32
  let c0_i32_23 : BitVec 32 := 0#32
  ![v36.toNat, 0]
def k0_off2 (d0 : Dev nD) (c0_i32_24 : BitVec 32) (c0_i32_33 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v38 : BitVec 32 := Scalar.subi v2 c0_i32_24
  let c16_i32_25 : BitVec 32 := 16#32
  let v39 : BitVec 32 := Scalar.addi v38 c16_i32_25
  let c16_i32_26 : BitVec 32 := 16#32
  let c0_i32_27 : BitVec 32 := 0#32
  let v40 : BitVec 1 := Scalar.cmpi .eq c16_i32_26 c0_i32_27
  let c1_i32_28 : BitVec 32 := 1#32
  let v41 : BitVec 32 := Scalar.select v40 c1_i32_28 c16_i32_26
  let v42 : BitVec 32 := Scalar.remsi v39 v41
  let c0_i32_30 : BitVec 32 := 0#32
  let v44 : BitVec 1 := Scalar.cmpi .slt v42 c0_i32_30
  let c0_i32_31 : BitVec 32 := 0#32
  let v45 : BitVec 1 := Scalar.cmpi .slt v41 c0_i32_31
  let v46 : BitVec 1 := Scalar.xori v44 v45
  let c0_i32_29 : BitVec 32 := 0#32
  let v43 : BitVec 1 := Scalar.cmpi .ne v42 c0_i32_29
  let v47 : BitVec 1 := Scalar.andi v46 v43
  let v48 : BitVec 32 := Scalar.addi v42 v41
  let v49 : BitVec 32 := Scalar.select v47 v48 v42
  let c2048_i32_32 : BitVec 32 := 2048#32
  let v50 : BitVec 32 := Scalar.muli v49 c2048_i32_32
  let v51 : BitVec 32 := Scalar.addi v50 c0_i32_33
  let c0_i32_38 : BitVec 32 := 0#32
  ![v51.toNat, 0]
def k0_off2_at (r : Fin 30) : BitVec 32 × BitVec 32 :=
  if r.val < 15 then
    if r.val < 7 then
      if r.val < 3 then
        if r.val < 1 then
          (0#32, 0#32)
        else
          if r.val < 2 then
            (0#32, 512#32)
          else
            (0#32, 1024#32)
      else
        if r.val < 5 then
          if r.val < 4 then
            (0#32, 1536#32)
          else
            (1#32, 0#32)
        else
          if r.val < 6 then
            (1#32, 512#32)
          else
            (1#32, 1024#32)
    else
      if r.val < 11 then
        if r.val < 9 then
          if r.val < 8 then
            (1#32, 1536#32)
          else
            (2#32, 0#32)
        else
          if r.val < 10 then
            (2#32, 512#32)
          else
            (2#32, 1024#32)
      else
        if r.val < 13 then
          if r.val < 12 then
            (2#32, 1536#32)
          else
            (3#32, 0#32)
        else
          if r.val < 14 then
            (3#32, 512#32)
          else
            (3#32, 1024#32)
  else
    if r.val < 22 then
      if r.val < 18 then
        if r.val < 16 then
          (3#32, 1536#32)
        else
          if r.val < 17 then
            (4#32, 0#32)
          else
            (4#32, 512#32)
      else
        if r.val < 20 then
          if r.val < 19 then
            (4#32, 1024#32)
          else
            (4#32, 1536#32)
        else
          if r.val < 21 then
            (5#32, 0#32)
          else
            (5#32, 512#32)
    else
      if r.val < 26 then
        if r.val < 24 then
          if r.val < 23 then
            (5#32, 1024#32)
          else
            (5#32, 1536#32)
        else
          if r.val < 25 then
            (6#32, 0#32)
          else
            (6#32, 512#32)
      else
        if r.val < 28 then
          if r.val < 27 then
            (6#32, 1024#32)
          else
            (6#32, 1536#32)
        else
          if r.val < 29 then
            (7#32, 0#32)
          else
            (7#32, 512#32)
def k0_dev3 (d0 : Dev nD) : Nat :=
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_36 : BitVec 32 := 1#32
  let v52 : BitVec 32 := Scalar.muli v25 c1_i32_36
  let v53 : BitVec 32 := Scalar.addi c0_i32_37 v52
  v53.toNat
def k0_off3 (d0 : Dev nD) (c0_i32_41 : BitVec 32) (c0_i32_49 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v60 : BitVec 32 := Scalar.addi v2 c0_i32_41
  let c16_i32_42 : BitVec 32 := 16#32
  let c0_i32_43 : BitVec 32 := 0#32
  let v61 : BitVec 1 := Scalar.cmpi .eq c16_i32_42 c0_i32_43
  let c1_i32_44 : BitVec 32 := 1#32
  let v62 : BitVec 32 := Scalar.select v61 c1_i32_44 c16_i32_42
  let v63 : BitVec 32 := Scalar.remsi v60 v62
  let c0_i32_46 : BitVec 32 := 0#32
  let v65 : BitVec 1 := Scalar.cmpi .slt v63 c0_i32_46
  let c0_i32_47 : BitVec 32 := 0#32
  let v66 : BitVec 1 := Scalar.cmpi .slt v62 c0_i32_47
  let v67 : BitVec 1 := Scalar.xori v65 v66
  let c0_i32_45 : BitVec 32 := 0#32
  let v64 : BitVec 1 := Scalar.cmpi .ne v63 c0_i32_45
  let v68 : BitVec 1 := Scalar.andi v67 v64
  let v69 : BitVec 32 := Scalar.addi v63 v62
  let v70 : BitVec 32 := Scalar.select v68 v69 v63
  let c2048_i32_48 : BitVec 32 := 2048#32
  let v71 : BitVec 32 := Scalar.muli v70 c2048_i32_48
  let v72 : BitVec 32 := Scalar.addi v71 c0_i32_49
  let c0_i32_54 : BitVec 32 := 0#32
  ![v72.toNat, 0]
def k0_off3_at (r : Fin 30) : BitVec 32 × BitVec 32 :=
  if r.val < 15 then
    if r.val < 7 then
      if r.val < 3 then
        if r.val < 1 then
          (0#32, 0#32)
        else
          if r.val < 2 then
            (0#32, 512#32)
          else
            (0#32, 1024#32)
      else
        if r.val < 5 then
          if r.val < 4 then
            (0#32, 1536#32)
          else
            (1#32, 0#32)
        else
          if r.val < 6 then
            (1#32, 512#32)
          else
            (1#32, 1024#32)
    else
      if r.val < 11 then
        if r.val < 9 then
          if r.val < 8 then
            (1#32, 1536#32)
          else
            (2#32, 0#32)
        else
          if r.val < 10 then
            (2#32, 512#32)
          else
            (2#32, 1024#32)
      else
        if r.val < 13 then
          if r.val < 12 then
            (2#32, 1536#32)
          else
            (3#32, 0#32)
        else
          if r.val < 14 then
            (3#32, 512#32)
          else
            (3#32, 1024#32)
  else
    if r.val < 22 then
      if r.val < 18 then
        if r.val < 16 then
          (3#32, 1536#32)
        else
          if r.val < 17 then
            (4#32, 0#32)
          else
            (4#32, 512#32)
      else
        if r.val < 20 then
          if r.val < 19 then
            (4#32, 1024#32)
          else
            (4#32, 1536#32)
        else
          if r.val < 21 then
            (5#32, 0#32)
          else
            (5#32, 512#32)
    else
      if r.val < 26 then
        if r.val < 24 then
          if r.val < 23 then
            (5#32, 1024#32)
          else
            (5#32, 1536#32)
        else
          if r.val < 25 then
            (6#32, 0#32)
          else
            (6#32, 512#32)
      else
        if r.val < 28 then
          if r.val < 27 then
            (6#32, 1024#32)
          else
            (6#32, 1536#32)
        else
          if r.val < 29 then
            (7#32, 1024#32)
          else
            (7#32, 1536#32)
def k0_dev4 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_52 : BitVec 32 := 1#32
  let v73 : BitVec 32 := Scalar.muli v14 c1_i32_52
  let v74 : BitVec 32 := Scalar.addi c0_i32_53 v73
  v74.toNat
def k0_dev5 (d0 : Dev nD) : Nat :=
  let c0_i32_69 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_68 : BitVec 32 := 1#32
  let v95 : BitVec 32 := Scalar.muli v25 c1_i32_68
  let v96 : BitVec 32 := Scalar.addi c0_i32_69 v95
  v96.toNat
def k0_dev6 (d0 : Dev nD) : Nat :=
  let c0_i32_85 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_84 : BitVec 32 := 1#32
  let v116 : BitVec 32 := Scalar.muli v14 c1_i32_84
  let v117 : BitVec 32 := Scalar.addi c0_i32_85 v116
  v117.toNat
def k0_dev7 (d0 : Dev nD) : Nat :=
  let c0_i32_101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_100 : BitVec 32 := 1#32
  let v138 : BitVec 32 := Scalar.muli v25 c1_i32_100
  let v139 : BitVec 32 := Scalar.addi c0_i32_101 v138
  v139.toNat
def k0_dev8 (d0 : Dev nD) : Nat :=
  let c0_i32_117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_116 : BitVec 32 := 1#32
  let v159 : BitVec 32 := Scalar.muli v14 c1_i32_116
  let v160 : BitVec 32 := Scalar.addi c0_i32_117 v159
  v160.toNat
def k0_dev9 (d0 : Dev nD) : Nat :=
  let c0_i32_133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_132 : BitVec 32 := 1#32
  let v181 : BitVec 32 := Scalar.muli v25 c1_i32_132
  let v182 : BitVec 32 := Scalar.addi c0_i32_133 v181
  v182.toNat
def k0_dev10 (d0 : Dev nD) : Nat :=
  let c0_i32_149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_148 : BitVec 32 := 1#32
  let v202 : BitVec 32 := Scalar.muli v14 c1_i32_148
  let v203 : BitVec 32 := Scalar.addi c0_i32_149 v202
  v203.toNat
def k0_dev11 (d0 : Dev nD) : Nat :=
  let c0_i32_173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_172 : BitVec 32 := 1#32
  let v230 : BitVec 32 := Scalar.muli v25 c1_i32_172
  let v231 : BitVec 32 := Scalar.addi c0_i32_173 v230
  v231.toNat
def k0_dev12 (d0 : Dev nD) : Nat :=
  let c0_i32_195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_194 : BitVec 32 := 1#32
  let v257 : BitVec 32 := Scalar.muli v14 c1_i32_194
  let v258 : BitVec 32 := Scalar.addi c0_i32_195 v257
  v258.toNat
def k0_dev13 (d0 : Dev nD) : Nat :=
  let c0_i32_218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_217 : BitVec 32 := 1#32
  let v285 : BitVec 32 := Scalar.muli v25 c1_i32_217
  let v286 : BitVec 32 := Scalar.addi c0_i32_218 v285
  v286.toNat
def k0_dev14 (d0 : Dev nD) : Nat :=
  let c0_i32_240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_239 : BitVec 32 := 1#32
  let v312 : BitVec 32 := Scalar.muli v14 c1_i32_239
  let v313 : BitVec 32 := Scalar.addi c0_i32_240 v312
  v313.toNat
def k0_dev15 (d0 : Dev nD) : Nat :=
  let c0_i32_263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_262 : BitVec 32 := 1#32
  let v340 : BitVec 32 := Scalar.muli v25 c1_i32_262
  let v341 : BitVec 32 := Scalar.addi c0_i32_263 v340
  v341.toNat
def k0_dev16 (d0 : Dev nD) : Nat :=
  let c0_i32_285 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_284 : BitVec 32 := 1#32
  let v367 : BitVec 32 := Scalar.muli v14 c1_i32_284
  let v368 : BitVec 32 := Scalar.addi c0_i32_285 v367
  v368.toNat
def k0_dev17 (d0 : Dev nD) : Nat :=
  let c0_i32_308 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_307 : BitVec 32 := 1#32
  let v395 : BitVec 32 := Scalar.muli v25 c1_i32_307
  let v396 : BitVec 32 := Scalar.addi c0_i32_308 v395
  v396.toNat
def k0_dev18 (d0 : Dev nD) : Nat :=
  let c0_i32_330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_329 : BitVec 32 := 1#32
  let v422 : BitVec 32 := Scalar.muli v14 c1_i32_329
  let v423 : BitVec 32 := Scalar.addi c0_i32_330 v422
  v423.toNat
def k0_dev19 (d0 : Dev nD) : Nat :=
  let c0_i32_352 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_351 : BitVec 32 := 1#32
  let v450 : BitVec 32 := Scalar.muli v25 c1_i32_351
  let v451 : BitVec 32 := Scalar.addi c0_i32_352 v450
  v451.toNat
def k0_dev20 (d0 : Dev nD) : Nat :=
  let c0_i32_373 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_372 : BitVec 32 := 1#32
  let v477 : BitVec 32 := Scalar.muli v14 c1_i32_372
  let v478 : BitVec 32 := Scalar.addi c0_i32_373 v477
  v478.toNat
def k0_dev21 (d0 : Dev nD) : Nat :=
  let c0_i32_395 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_394 : BitVec 32 := 1#32
  let v505 : BitVec 32 := Scalar.muli v25 c1_i32_394
  let v506 : BitVec 32 := Scalar.addi c0_i32_395 v505
  v506.toNat
def k0_dev22 (d0 : Dev nD) : Nat :=
  let c0_i32_416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_415 : BitVec 32 := 1#32
  let v532 : BitVec 32 := Scalar.muli v14 c1_i32_415
  let v533 : BitVec 32 := Scalar.addi c0_i32_416 v532
  v533.toNat
def k0_dev23 (d0 : Dev nD) : Nat :=
  let c0_i32_438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_437 : BitVec 32 := 1#32
  let v560 : BitVec 32 := Scalar.muli v25 c1_i32_437
  let v561 : BitVec 32 := Scalar.addi c0_i32_438 v560
  v561.toNat
def k0_dev24 (d0 : Dev nD) : Nat :=
  let c0_i32_459 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_458 : BitVec 32 := 1#32
  let v587 : BitVec 32 := Scalar.muli v14 c1_i32_458
  let v588 : BitVec 32 := Scalar.addi c0_i32_459 v587
  v588.toNat
def k0_dev25 (d0 : Dev nD) : Nat :=
  let c0_i32_481 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_480 : BitVec 32 := 1#32
  let v615 : BitVec 32 := Scalar.muli v25 c1_i32_480
  let v616 : BitVec 32 := Scalar.addi c0_i32_481 v615
  v616.toNat
def k0_dev26 (d0 : Dev nD) : Nat :=
  let c0_i32_502 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_501 : BitVec 32 := 1#32
  let v642 : BitVec 32 := Scalar.muli v14 c1_i32_501
  let v643 : BitVec 32 := Scalar.addi c0_i32_502 v642
  v643.toNat
def k0_dev27 (d0 : Dev nD) : Nat :=
  let c0_i32_523 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_522 : BitVec 32 := 1#32
  let v670 : BitVec 32 := Scalar.muli v25 c1_i32_522
  let v671 : BitVec 32 := Scalar.addi c0_i32_523 v670
  v671.toNat
def k0_dev28 (d0 : Dev nD) : Nat :=
  let c0_i32_544 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_543 : BitVec 32 := 1#32
  let v697 : BitVec 32 := Scalar.muli v14 c1_i32_543
  let v698 : BitVec 32 := Scalar.addi c0_i32_544 v697
  v698.toNat
def k0_dev29 (d0 : Dev nD) : Nat :=
  let c0_i32_566 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_565 : BitVec 32 := 1#32
  let v725 : BitVec 32 := Scalar.muli v25 c1_i32_565
  let v726 : BitVec 32 := Scalar.addi c0_i32_566 v725
  v726.toNat
def k0_dev30 (d0 : Dev nD) : Nat :=
  let c0_i32_587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_586 : BitVec 32 := 1#32
  let v752 : BitVec 32 := Scalar.muli v14 c1_i32_586
  let v753 : BitVec 32 := Scalar.addi c0_i32_587 v752
  v753.toNat
def k0_dev31 (d0 : Dev nD) : Nat :=
  let c0_i32_609 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_608 : BitVec 32 := 1#32
  let v780 : BitVec 32 := Scalar.muli v25 c1_i32_608
  let v781 : BitVec 32 := Scalar.addi c0_i32_609 v780
  v781.toNat
def k0_dev32 (d0 : Dev nD) : Nat :=
  let c0_i32_630 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_629 : BitVec 32 := 1#32
  let v807 : BitVec 32 := Scalar.muli v14 c1_i32_629
  let v808 : BitVec 32 := Scalar.addi c0_i32_630 v807
  v808.toNat
def k0_dev33 (d0 : Dev nD) : Nat :=
  let c0_i32_652 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_651 : BitVec 32 := 1#32
  let v835 : BitVec 32 := Scalar.muli v25 c1_i32_651
  let v836 : BitVec 32 := Scalar.addi c0_i32_652 v835
  v836.toNat
def k0_dev34 (d0 : Dev nD) : Nat :=
  let c0_i32_673 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_672 : BitVec 32 := 1#32
  let v862 : BitVec 32 := Scalar.muli v14 c1_i32_672
  let v863 : BitVec 32 := Scalar.addi c0_i32_673 v862
  v863.toNat
def k0_dev35 (d0 : Dev nD) : Nat :=
  let c0_i32_694 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_693 : BitVec 32 := 1#32
  let v890 : BitVec 32 := Scalar.muli v25 c1_i32_693
  let v891 : BitVec 32 := Scalar.addi c0_i32_694 v890
  v891.toNat
def k0_dev36 (d0 : Dev nD) : Nat :=
  let c0_i32_715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_714 : BitVec 32 := 1#32
  let v917 : BitVec 32 := Scalar.muli v14 c1_i32_714
  let v918 : BitVec 32 := Scalar.addi c0_i32_715 v917
  v918.toNat
def k0_dev37 (d0 : Dev nD) : Nat :=
  let c0_i32_737 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_736 : BitVec 32 := 1#32
  let v945 : BitVec 32 := Scalar.muli v25 c1_i32_736
  let v946 : BitVec 32 := Scalar.addi c0_i32_737 v945
  v946.toNat
def k0_dev38 (d0 : Dev nD) : Nat :=
  let c0_i32_758 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_757 : BitVec 32 := 1#32
  let v972 : BitVec 32 := Scalar.muli v14 c1_i32_757
  let v973 : BitVec 32 := Scalar.addi c0_i32_758 v972
  v973.toNat
def k0_dev39 (d0 : Dev nD) : Nat :=
  let c0_i32_780 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_779 : BitVec 32 := 1#32
  let v1000 : BitVec 32 := Scalar.muli v25 c1_i32_779
  let v1001 : BitVec 32 := Scalar.addi c0_i32_780 v1000
  v1001.toNat
def k0_dev40 (d0 : Dev nD) : Nat :=
  let c0_i32_801 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_800 : BitVec 32 := 1#32
  let v1027 : BitVec 32 := Scalar.muli v14 c1_i32_800
  let v1028 : BitVec 32 := Scalar.addi c0_i32_801 v1027
  v1028.toNat
def k0_dev41 (d0 : Dev nD) : Nat :=
  let c0_i32_823 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_822 : BitVec 32 := 1#32
  let v1055 : BitVec 32 := Scalar.muli v25 c1_i32_822
  let v1056 : BitVec 32 := Scalar.addi c0_i32_823 v1055
  v1056.toNat
def k0_dev42 (d0 : Dev nD) : Nat :=
  let c0_i32_844 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_843 : BitVec 32 := 1#32
  let v1082 : BitVec 32 := Scalar.muli v14 c1_i32_843
  let v1083 : BitVec 32 := Scalar.addi c0_i32_844 v1082
  v1083.toNat
def k0_dev43 (d0 : Dev nD) : Nat :=
  let c0_i32_865 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_864 : BitVec 32 := 1#32
  let v1110 : BitVec 32 := Scalar.muli v25 c1_i32_864
  let v1111 : BitVec 32 := Scalar.addi c0_i32_865 v1110
  v1111.toNat
def k0_dev44 (d0 : Dev nD) : Nat :=
  let c0_i32_886 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_885 : BitVec 32 := 1#32
  let v1137 : BitVec 32 := Scalar.muli v14 c1_i32_885
  let v1138 : BitVec 32 := Scalar.addi c0_i32_886 v1137
  v1138.toNat
def k0_dev45 (d0 : Dev nD) : Nat :=
  let c0_i32_908 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_907 : BitVec 32 := 1#32
  let v1165 : BitVec 32 := Scalar.muli v25 c1_i32_907
  let v1166 : BitVec 32 := Scalar.addi c0_i32_908 v1165
  v1166.toNat
def k0_dev46 (d0 : Dev nD) : Nat :=
  let c0_i32_929 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_928 : BitVec 32 := 1#32
  let v1192 : BitVec 32 := Scalar.muli v14 c1_i32_928
  let v1193 : BitVec 32 := Scalar.addi c0_i32_929 v1192
  v1193.toNat
def k0_dev47 (d0 : Dev nD) : Nat :=
  let c0_i32_951 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_950 : BitVec 32 := 1#32
  let v1220 : BitVec 32 := Scalar.muli v25 c1_i32_950
  let v1221 : BitVec 32 := Scalar.addi c0_i32_951 v1220
  v1221.toNat
def k0_dev48 (d0 : Dev nD) : Nat :=
  let c0_i32_972 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_971 : BitVec 32 := 1#32
  let v1247 : BitVec 32 := Scalar.muli v14 c1_i32_971
  let v1248 : BitVec 32 := Scalar.addi c0_i32_972 v1247
  v1248.toNat
def k0_dev49 (d0 : Dev nD) : Nat :=
  let c0_i32_994 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_993 : BitVec 32 := 1#32
  let v1275 : BitVec 32 := Scalar.muli v25 c1_i32_993
  let v1276 : BitVec 32 := Scalar.addi c0_i32_994 v1275
  v1276.toNat
def k0_dev50 (d0 : Dev nD) : Nat :=
  let c0_i32_1015 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1014 : BitVec 32 := 1#32
  let v1302 : BitVec 32 := Scalar.muli v14 c1_i32_1014
  let v1303 : BitVec 32 := Scalar.addi c0_i32_1015 v1302
  v1303.toNat
def k0_dev51 (d0 : Dev nD) : Nat :=
  let c0_i32_1036 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1035 : BitVec 32 := 1#32
  let v1330 : BitVec 32 := Scalar.muli v25 c1_i32_1035
  let v1331 : BitVec 32 := Scalar.addi c0_i32_1036 v1330
  v1331.toNat
def k0_dev52 (d0 : Dev nD) : Nat :=
  let c0_i32_1057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1056 : BitVec 32 := 1#32
  let v1357 : BitVec 32 := Scalar.muli v14 c1_i32_1056
  let v1358 : BitVec 32 := Scalar.addi c0_i32_1057 v1357
  v1358.toNat
def k0_dev53 (d0 : Dev nD) : Nat :=
  let c0_i32_1079 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1078 : BitVec 32 := 1#32
  let v1385 : BitVec 32 := Scalar.muli v25 c1_i32_1078
  let v1386 : BitVec 32 := Scalar.addi c0_i32_1079 v1385
  v1386.toNat
def k0_dev54 (d0 : Dev nD) : Nat :=
  let c0_i32_1100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1099 : BitVec 32 := 1#32
  let v1412 : BitVec 32 := Scalar.muli v14 c1_i32_1099
  let v1413 : BitVec 32 := Scalar.addi c0_i32_1100 v1412
  v1413.toNat
def k0_dev55 (d0 : Dev nD) : Nat :=
  let c0_i32_1122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1121 : BitVec 32 := 1#32
  let v1440 : BitVec 32 := Scalar.muli v25 c1_i32_1121
  let v1441 : BitVec 32 := Scalar.addi c0_i32_1122 v1440
  v1441.toNat
def k0_dev56 (d0 : Dev nD) : Nat :=
  let c0_i32_1143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1142 : BitVec 32 := 1#32
  let v1467 : BitVec 32 := Scalar.muli v14 c1_i32_1142
  let v1468 : BitVec 32 := Scalar.addi c0_i32_1143 v1467
  v1468.toNat
def k0_dev57 (d0 : Dev nD) : Nat :=
  let c0_i32_1165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1164 : BitVec 32 := 1#32
  let v1495 : BitVec 32 := Scalar.muli v25 c1_i32_1164
  let v1496 : BitVec 32 := Scalar.addi c0_i32_1165 v1495
  v1496.toNat
def k0_dev58 (d0 : Dev nD) : Nat :=
  let c0_i32_1186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1185 : BitVec 32 := 1#32
  let v1522 : BitVec 32 := Scalar.muli v14 c1_i32_1185
  let v1523 : BitVec 32 := Scalar.addi c0_i32_1186 v1522
  v1523.toNat
def k0_dev59 (d0 : Dev nD) : Nat :=
  let c0_i32_1207 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1206 : BitVec 32 := 1#32
  let v1550 : BitVec 32 := Scalar.muli v25 c1_i32_1206
  let v1551 : BitVec 32 := Scalar.addi c0_i32_1207 v1550
  v1551.toNat
def k0_dev60 (d0 : Dev nD) : Nat :=
  let c0_i32_1229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1228 : BitVec 32 := 1#32
  let v1578 : BitVec 32 := Scalar.muli v25 c1_i32_1228
  let v1579 : BitVec 32 := Scalar.addi c0_i32_1229 v1578
  v1579.toNat
def k0_dev61 (d0 : Dev nD) : Nat :=
  let c0_i32_1250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1249 : BitVec 32 := 1#32
  let v1605 : BitVec 32 := Scalar.muli v14 c1_i32_1249
  let v1606 : BitVec 32 := Scalar.addi c0_i32_1250 v1605
  v1606.toNat
def k0_dev62 (d0 : Dev nD) : Nat :=
  let c0_i32_1271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1270 : BitVec 32 := 1#32
  let v1632 : BitVec 32 := Scalar.muli v14 c1_i32_1270
  let v1633 : BitVec 32 := Scalar.addi c0_i32_1271 v1632
  v1633.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S32768x512 : Shape := ⟨2, ![32768, 512]⟩

abbrev nBuf : Space → Nat
  | .hbm => 1
  | .vmem => 0
  | .smem => 0
  | _ => 0

abbrev bufTy : (tb : Table) → Fin (tcTables nBuf tb) → BufTy
  | .hbm, ⟨0, _⟩ => ⟨S32768x512, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Program.lean ====
/-
# The kernel body as a schedule of sixty transfers

Sixteen devices sit on a ring. Every device starts with a block of 2048 rows, cut in four pieces of 512 rows, and
every piece travels round the ring in both directions until every device has it. Device `c` makes sixty transfers, here
numbered in the order the body starts them: transfer `j` belongs to one of eight lanes (a direction and a piece,
`key j`), and is the lane's hop number `hop j`. This module names, for every `j`, the neighbour it is addressed to,
the rows it carries and its two semaphores, and shows (`body_eq`) that the body is a short program over these names.
-/
module

public import proofs.«01_k».proof.Proof.Gen.KernelIdeal.Skeleton

@[expose] public section

noncomputable section

namespace Cert.RingGather

open Cert.KernelIdeal Cert.KernelIdeal.Gen
open Idealize.ShloMosaic Idealize.SL.Sem

variable {F : FTy → Type} [FloatOps F]

/-! ## The numbering -/

/-- Transfers, in the order they are started. -/
abbrev J : Type := Fin 60

/-- The lane of a transfer: even lanes go right, odd lanes go left, and lanes `2 p` and `2 p + 1` carry piece `p`. -/
def key (j : J) : ℕ := if j.val < 56 then j.val % 8 else 2 * (j.val - 56) + (j.val - 56) / 2
/-- How many devices the rows have passed before this transfer. -/
def hop (j : J) : ℕ := j.val / 8
/-- Whether the transfer goes to the right-hand neighbour. -/
def isR (j : J) : Bool := key j % 2 == 0
/-- The piece, of the four in a block, that the transfer carries. -/
def pc (j : J) : Fin 4 := if j.val < 56 then ⟨j.val % 8 / 2, by omega⟩ else ⟨j.val % 4, by omega⟩
/-- The row of the body's table of row offsets that the transfer reads. -/
def row (j : J) : Fin 30 := if h : j.val < 56 then ⟨j.val / 2, by omega⟩ else ⟨28 + j.val % 2, by omega⟩

/-- The number of a lane's first send semaphore. -/
def base (k : ℕ) : ℕ := [2, 18, 32, 48, 62, 76, 92, 106].getD k 0
/-- The number of a lane's hops. -/
def len (k : ℕ) : ℕ := [8, 7, 8, 7, 7, 8, 7, 8].getD k 0

set_option backward.proofsInPublic true in
/-- The semaphore that says the rows have left the sending device. -/
def sS (j : J) : DmaSem sig := ⟨base (key j) + hop j, by revert j; decide⟩
set_option backward.proofsInPublic true in
/-- The semaphore, of the receiving device, that says the rows have arrived. -/
def rS (j : J) : DmaSem sig := ⟨base (key j) + len (key j) + hop j, by revert j; decide⟩

/-- The neighbour on the right. -/
def right (c : Dev nD) : Dev nD := ⟨(c.val + 1) % 16, Nat.mod_lt _ (by decide)⟩
/-- The neighbour on the left. -/
def left (c : Dev nD) : Dev nD := ⟨(c.val + 15) % 16, Nat.mod_lt _ (by decide)⟩

/-- The device transfer `j` is addressed to, as the body computes it. -/
def devT (c : Dev nD) (j : J) : Dev nD :=
  (![
    ⟨k0_dev3 c, k0_dev3_lt c⟩, ⟨k0_dev4 c, k0_dev4_lt c⟩, ⟨k0_dev5 c, k0_dev5_lt c⟩, ⟨k0_dev6 c, k0_dev6_lt c⟩,
    ⟨k0_dev7 c, k0_dev7_lt c⟩, ⟨k0_dev8 c, k0_dev8_lt c⟩, ⟨k0_dev9 c, k0_dev9_lt c⟩, ⟨k0_dev10 c, k0_dev10_lt c⟩,
    ⟨k0_dev11 c, k0_dev11_lt c⟩, ⟨k0_dev12 c, k0_dev12_lt c⟩, ⟨k0_dev13 c, k0_dev13_lt c⟩, ⟨k0_dev14 c, k0_dev14_lt c⟩,
    ⟨k0_dev15 c, k0_dev15_lt c⟩, ⟨k0_dev16 c, k0_dev16_lt c⟩, ⟨k0_dev17 c, k0_dev17_lt c⟩, ⟨k0_dev18 c, k0_dev18_lt c⟩,
    ⟨k0_dev19 c, k0_dev19_lt c⟩, ⟨k0_dev20 c, k0_dev20_lt c⟩, ⟨k0_dev21 c, k0_dev21_lt c⟩, ⟨k0_dev22 c, k0_dev22_lt c⟩,
    ⟨k0_dev23 c, k0_dev23_lt c⟩, ⟨k0_dev24 c, k0_dev24_lt c⟩, ⟨k0_dev25 c, k0_dev25_lt c⟩, ⟨k0_dev26 c, k0_dev26_lt c⟩,
    ⟨k0_dev27 c, k0_dev27_lt c⟩, ⟨k0_dev28 c, k0_dev28_lt c⟩, ⟨k0_dev29 c, k0_dev29_lt c⟩, ⟨k0_dev30 c, k0_dev30_lt c⟩,
    ⟨k0_dev31 c, k0_dev31_lt c⟩, ⟨k0_dev32 c, k0_dev32_lt c⟩, ⟨k0_dev33 c, k0_dev33_lt c⟩, ⟨k0_dev34 c, k0_dev34_lt c⟩,
    ⟨k0_dev35 c, k0_dev35_lt c⟩, ⟨k0_dev36 c, k0_dev36_lt c⟩, ⟨k0_dev37 c, k0_dev37_lt c⟩, ⟨k0_dev38 c, k0_dev38_lt c⟩,
    ⟨k0_dev39 c, k0_dev39_lt c⟩, ⟨k0_dev40 c, k0_dev40_lt c⟩, ⟨k0_dev41 c, k0_dev41_lt c⟩, ⟨k0_dev42 c, k0_dev42_lt c⟩,
    ⟨k0_dev43 c, k0_dev43_lt c⟩, ⟨k0_dev44 c, k0_dev44_lt c⟩, ⟨k0_dev45 c, k0_dev45_lt c⟩, ⟨k0_dev46 c, k0_dev46_lt c⟩,
    ⟨k0_dev47 c, k0_dev47_lt c⟩, ⟨k0_dev48 c, k0_dev48_lt c⟩, ⟨k0_dev49 c, k0_dev49_lt c⟩, ⟨k0_dev50 c, k0_dev50_lt c⟩,
    ⟨k0_dev51 c, k0_dev51_lt c⟩, ⟨k0_dev52 c, k0_dev52_lt c⟩, ⟨k0_dev53 c, k0_dev53_lt c⟩, ⟨k0_dev54 c, k0_dev54_lt c⟩,
    ⟨k0_dev55 c, k0_dev55_lt c⟩, ⟨k0_dev56 c, k0_dev56_lt c⟩, ⟨k0_dev57 c, k0_dev57_lt c⟩, ⟨k0_dev58 c, k0_dev58_lt c⟩,
    ⟨k0_dev59 c, k0_dev59_lt c⟩, ⟨k0_dev60 c, k0_dev60_lt c⟩, ⟨k0_dev61 c, k0_dev61_lt c⟩, ⟨k0_dev62 c, k0_dev62_lt c⟩] : Fin 60 → Dev nD) j

/-- The device transfer `j` is addressed to, the neighbour on its lane's side. -/
def dst (c : Dev nD) (j : J) : Dev nD := if isR j then right c else left c

/-- The device that the body computes for a transfer is the neighbour on its side. -/
theorem devT_eq : ∀ (c : Dev nD) (j : J), devT c j = dst c j := by decide +kernel
/-- The device that the first signal goes to is the left neighbour. -/
theorem dev1_eq : ∀ c : Dev nD, (⟨k0_dev1 c, k0_dev1_lt c⟩ : Dev nD) = left c := by decide +kernel
/-- The device that the second signal goes to is the right neighbour. -/
theorem dev2_eq : ∀ c : Dev nD, (⟨k0_dev2 c, k0_dev2_lt c⟩ : Dev nD) = right c := by decide +kernel

/-! ## The memory the transfers touch -/

/-- The staged block of the argument. -/
abbrev xM : Memref sig .tc .vmem S2048x512 .bf16 := Memref.whole cc0_stg0_0
/-- The result array. -/
abbrev oM : Memref sig .tc .hbm S32768x512 .bf16 := Memref.whole main_v1
/-- The scratch that keeps the device's own block for sending. -/
abbrev wM : Memref sig .tc .vmem S2048x512 .bf16 := Memref.whole cc0_scratch0

/-- The rows of the result array that transfer `j` of device `c` carries, as the body computes them. -/
def outV (c : Dev nD) (j : J) : Memref sig .tc .hbm S512x512 .bf16 :=
  match isR j with
  | true => oM.slice (Rect.unit (s := S32768x512) (k0_off2 c (k0_off2_at (row j)).1 (k0_off2_at (row j)).2) S512x512.size (k0_off2_inb c (row j))) (fun _ => rfl)
  | false => oM.slice (Rect.unit (s := S32768x512) (k0_off3 c (k0_off3_at (row j)).1 (k0_off3_at (row j)).2) S512x512.size (k0_off3_inb c (row j))) (fun _ => rfl)

/-- A transfer's rows of the result are whole words of memory. -/
theorem outV_exact (c : Dev nD) (j : J) : (outV c j).view.WordExact := by
  unfold outV
  split
  · exact (Memref.isWhole_whole main_v1).wordExact_slice rfl _ (k0_off2_wordsbf16 c (row j))
  · exact (Memref.isWhole_whole main_v1).wordExact_slice rfl _ (k0_off3_wordsbf16 c (row j))

/-- A transfer's rows are rows of the result. -/
theorem outV_ref (c : Dev nD) (j : J) : (outV c j).view.ref = main_v1 := by
  unfold outV; split <;> rfl

/-- A transfer's rows do not lie in a SparseCore's scratch. -/
theorem outV_tc (c : Dev nD) (j : J) : (outV c j).view.ref.isScScratch = false := by
  rw [outV_ref]; rfl

/-- Each of the four pieces lies inside the block. -/
theorem own_inb : ∀ (p : Fin 4) (a : Fin 2), (![512 * p.val, 0] : Fin 2 → Nat) a + S512x512.size a ≤ S2048x512.size a := by decide

/-- Piece `p` of the device's own block. -/
def ownV (p : Fin 4) : Memref sig .tc .vmem S512x512 .bf16 :=
  wM.slice (Rect.unit (s := S2048x512) ![512 * p.val, 0] S512x512.size (own_inb p)) (fun _ => rfl)

/-- A piece of the block in scratch is whole words of memory. -/
theorem ownV_exact (p : Fin 4) : (ownV p).view.WordExact := by
  refine (Memref.isWhole_whole cc0_scratch0).wordExact_slice rfl _ ?_
  fin_cases p
  · exact wordsbf16_S2048x512_S512x512_0_0
  · exact wordsbf16_S2048x512_S512x512_512_0
  · exact wordsbf16_S2048x512_S512x512_1024_0
  · exact wordsbf16_S2048x512_S512x512_1536_0

/-- The rows of the result array that hold the device's own block. -/
def blkV (c : Dev nD) : Memref sig .tc .hbm S2048x512 .bf16 :=
  oM.slice (Rect.unit (s := S32768x512) (k0_off1 c) S2048x512.size (k0_off1_inb c)) (fun _ => rfl)

/-- A device's own rows of the result are whole words of memory. -/
theorem blkV_exact (c : Dev nD) : (blkV c).view.WordExact :=
  (Memref.isWhole_whole main_v1).wordExact_slice rfl _ (k0_off1_wordsbf16 c)

/-! ## The body's operations -/

/-- An operation of the body that returns nothing. -/
abbrev Op (F : FTy → Type) [FloatOps F] : Type := TpuEff nD τ sig (Elt F) Λ₀ .tc PUnit

/-- Starting transfer `j` out of the device's own block (a lane's first hop). -/
def start₀ (c : Dev nD) (j : J) : Op F :=
  .enqueueDma (ownV (pc j)) (.remote (Dev.tc (devT c j)) (outV c j) (.dma (sS j)) (outV_tc c j)) (.dma (rS j)) (ownV_exact _) (outV_exact c j)
    ⟨⟨rfl, Or.inl rfl⟩, trivial⟩
/-- Starting transfer `j` out of the result array (a later hop). -/
def start₁ (c : Dev nD) (j : J) : Op F :=
  .enqueueDma (outV c j) (.remote (Dev.tc (devT c j)) (outV c j) (.dma (sS j)) (outV_tc c j)) (.dma (rS j)) (outV_exact c j) (outV_exact c j)
    ⟨⟨rfl, Or.inl rfl⟩, trivial⟩
/-- Waiting until the neighbour's transfer `j` has arrived here. -/
def recv (c : Dev nD) (j : J) : Op F :=
  if j.val < 8 then .waitDma2 (rS j) (ownV (pc j)) (outV c j) (ownV_exact _) (outV_exact c j)
  else .waitDma2 (rS j) (outV c j) (outV c j) (outV_exact c j) (outV_exact c j)
/-- Waiting until transfer `j` has left this device. -/
def sent (c : Dev nD) (j : J) : Op F :=
  if j.val < 8 then .waitDma2 (sS j) (outV c j) (ownV (pc j)) (outV_exact c j) (ownV_exact _)
  else .waitDma2 (sS j) (outV c j) (outV c j) (outV_exact c j) (outV_exact c j)

/-- The semaphore of the copy of the device's own block into its result array. -/
abbrev cS : DmaSem sig := 1
/-- Starting the copy of the own block into the result. -/
def copy (c : Dev nD) : Op F := .enqueueDma wM (.here (blkV c)) (.dma cS) (Memref.isWhole_whole cc0_scratch0).wordExact (blkV_exact c) ⟨Or.inl rfl, trivial⟩
/-- Waiting for the copy of the own block. -/
def copied (c : Dev nD) : Op F := .waitDma2 cS wM (blkV c) (Memref.isWhole_whole cc0_scratch0).wordExact (blkV_exact c)

/-- Operations one after another, and then the rest of a program. -/
def run {α : Type} : List (Op F) → Prog (TpuEff nD τ sig (Elt F) Λ₀ .tc) α → Prog (TpuEff nD τ sig (Elt F) Λ₀ .tc) α
  | [], k => k
  | e :: es, k => .op e fun _ => run es k

/-- The transfer before `j` on its lane. -/
def pred (j : J) : J := if j.val < 56 then ⟨j.val - 8, by omega⟩ else ⟨48 + (2 * (j.val - 56) + (j.val - 56) / 2), by omega⟩

/-- The first hops of the lanes. -/
def firsts : List J := [0, 1, 2, 3, 4, 5, 6, 7]
/-- The later hops, in the order they are started. -/
def laters : List J := [8, 9, 10, 11, 12, 13, 14, 15, 16, 17, 18, 19, 20, 21, 22, 23, 24, 25, 26, 27, 28, 29, 30, 31, 32, 33,
  34, 35, 36, 37, 38, 39, 40, 41, 42, 43, 44, 45, 46, 47, 48, 49, 50, 51, 52, 53, 54, 55, 56, 57, 58, 59]
/-- The last hop of each lane. -/
def lasts : List J := [56, 49, 57, 51, 52, 58, 54, 59]
/-- All transfers, lane by lane. -/
def lanes : List J := [0, 8, 16, 24, 32, 40, 48, 56, 1, 9, 17, 25, 33, 41, 49, 2, 10, 18, 26, 34, 42, 50, 57, 3, 11, 19, 27, 35, 43, 51,
  4, 12, 20, 28, 36, 44, 52, 5, 13, 21, 29, 37, 45, 53, 58, 6, 14, 22, 30, 38, 46, 54, 7, 15, 23, 31, 39, 47, 55, 59]

/-- A later hop: its rows are waited for, then sent on. -/
def step (c : Dev nD) (j : J) : List (Op F) := [recv c (pred j), start₁ c j]

/-- The body after the barrier: the first hops, the later ones as their rows arrive, the last arrivals, the device's own
    copy, and the waits for everything that was sent. -/
def tail (c : Dev nD) : Prog (TpuEff nD τ sig (Elt F) Λ₀ .tc) PUnit :=
  run (firsts.map (start₀ c)) <| run (laters.flatMap (step c)) <| run (lasts.map (recv c)) <| run [copied c] <| run (lanes.map (sent c)) <| .ret ⟨⟩

/-- The whole array a block buffer is read and written through. -/
abbrev r0 : Rect S2048x512 := Rect.unit (s := S2048x512) ![0, 0] S2048x512.size inb_S2048x512_S2048x512_0_0

/-- The barrier semaphore. -/
abbrev barS : Sem sig := (SemArray.scalar (sig.barrier 0 rfl) : Sems sig S_).sem

/-- The body, on a device already known. -/
def prog (c : Dev nD) : Prog (TpuEff nD τ sig (Elt F) Λ₀ .tc) PUnit := do
  semSignalWord (⟨k0_dev1 c, k0_dev1_lt c⟩ : Dev nD) barS 1#32
  semSignalWord (⟨k0_dev2 c, k0_dev2_lt c⟩ : Dev nD) barS 1#32
  let v ← Prog.lift (.load xM r0.toLoadRect (View.loadsAt_vmem h_S2048x512))
  let _ ← Prog.lift (.load wM r0.toLoadRect (View.loadsAt_vmem h_S2048x512))
  Prog.lift (.store wM r0 (k0_pay1 v) Finset.univ
    (View.stores_vmem h_S2048x512 ((Memref.isWhole_whole cc0_scratch0).storeExact_slice rfl _ packedbf16_S2048x512_S2048x512_0_0) (fun _ => rfl)) (.inl rfl))
  Prog.lift (copy c)
  semWaitWord barS 2#32
  tail c

set_option maxRecDepth 65536 in
/-- The body, on its buffers and semaphores, reads its device and runs `prog` there. -/
theorem body_eq : cc0_body (F := F) xM (Memref.isWhole_whole _) oM (Memref.isWhole_whole _) wM (Memref.isWhole_whole _) cc0_scratch1 cc0_scratch2
      cc0_scratch3 cc0_scratch4 cc0_scratch5 cc0_scratch6 cc0_scratch7 cc0_scratch8 cc0_scratch9 cc0_scratch10 cc0_scratch11 cc0_scratch12 cc0_scratch13
      cc0_scratch14 cc0_scratch15 cc0_scratch16 cc0_scratch17
    = (Prog.lift TpuEff.deviceId >>= prog) := by
  rfl

end Cert.RingGather

end
-- ==== Proof.Rows.lean ====
/-
# The rows

The rows each transfer carries, the views that name them, and the contents every device ends with.
-/
module

public import proofs.«01_k».proof.Proof.Program
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.RingGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of the ring's counters. -/
abbrev UB : Type := URounds (GSem nD τ sig) Bool
/-- All the ghost state: the pipeline's and the ring's. -/
abbrev UU : Type := UR sig nD τ × UB
local notation "𝕄" => MT nD τ sig Unit (Elt F) ℕ UU ℕ

/-- The place of the pipeline's part. -/
abbrev EP : Emb (UR sig nD τ) (MT nD τ sig Unit (Elt F) ℕ UU ℕ) := embL
/-- The place of the ring's part. -/
abbrev ER : Emb UB (MT nD τ sig Unit (Elt F) ℕ UU ℕ) := embR

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-! ## The ring -/

/-- The device to the left of the right neighbour is the device itself. -/
theorem left_right : ∀ c : Dev nD, left (right c) = c := by decide
/-- The device to the right of the left neighbour is the device itself. -/
theorem right_left : ∀ c : Dev nD, right (left c) = c := by decide

/-- The device whose transfer `j` arrives at `c`. -/
def src (c : Dev nD) (j : J) : Dev nD := if isR j then left c else right c

/-- The transfer of the device whose transfer arrives at `c` ends at `c`. -/
theorem dst_src (c : Dev nD) (j : J) : dst (src c j) j = c := by
  unfold dst src; split
  · exact right_left c
  · exact left_right c
/-- The device whose transfer arrives at the end of one from `c` is `c`. -/
theorem src_dst (c : Dev nD) (j : J) : src (dst c j) j = c := by
  unfold dst src; split
  · exact left_right c
  · exact right_left c

/-! ## The rows -/

/-- The first row of the result that transfer `j` of device `c` carries: its piece of the block of the device `hop j` places
    behind. -/
def rowOf (c : Dev nD) (j : J) : ℕ := 2048 * ((c.val + (if isR j then 16 - hop j else hop j)) % 16) + 512 * (pc j).val

/-- The first row of what arrives at `c` with transfer `j`. -/
def arr (c : Dev nD) (j : J) : ℕ := rowOf (src c j) j

/-- There are four pieces. -/
theorem pc_lt (j : J) : (pc j).val < 4 := (pc j).isLt

/-- A transfer's rows lie inside the result. -/
theorem rowOf_le (c : Dev nD) (j : J) : rowOf c j + 512 ≤ 32768 := by
  have := pc_lt j
  have h := Nat.mod_lt (c.val + (if isR j then 16 - hop j else hop j)) (show 0 < 16 by decide)
  unfold rowOf; omega

/-- On its first hop a transfer carries a piece of its device's own block. -/
theorem rowOf_first : ∀ (c : Dev nD) (j : J), j.val < 8 → rowOf c j = 2048 * c.val + 512 * (pc j).val := by decide +kernel
/-- On a later hop it carries what arrived with the lane's previous hop. -/
theorem rowOf_later : ∀ (c : Dev nD) (j : J), 8 ≤ j.val → arr c (pred j) = rowOf c j := by decide +kernel
/-- Different transfers bring a device different rows. -/
theorem arr_inj : ∀ (c : Dev nD) (i j : J), arr c i = arr c j → i = j := by decide +kernel
/-- What arrives with a transfer starts at a multiple of 512 rows. -/
theorem arr_dvd : ∀ (c : Dev nD) (j : J), arr c j = 512 * (arr c j / 512) := by decide +kernel
/-- No transfer brings a device rows of its own block. -/
theorem arr_other : ∀ (c : Dev nD) (j : J), arr c j / 2048 ≠ c.val := by decide +kernel
/-- Each 512 rows outside a device's own block arrive with some transfer. -/
theorem arr_all : ∀ (c : Dev nD) (k : Fin 64), k.val / 4 ≠ c.val → ∃ j, arr c j = 512 * k.val := by decide +kernel

/-- The elements of the result in the `n` rows from row `b`. -/
def band (b n : ℕ) : Finset S32768x512.Idx := Finset.univ.filter fun i => b ≤ (i 0).val ∧ (i 0).val < b + n

/-- An element is in a band when its row is. -/
theorem mem_band {b n : ℕ} {i : S32768x512.Idx} : i ∈ band b n ↔ b ≤ (i 0).val ∧ (i 0).val < b + n := by
  unfold band; rw [Finset.mem_filter]; exact ⟨fun h => h.2, fun h => ⟨Finset.mem_univ _, h⟩⟩

/-- What arrives at different times is disjoint. -/
theorem arr_disjoint (c : Dev nD) : ∀ i ∈ (Finset.univ : Finset J), ∀ j ∈ (Finset.univ : Finset J), i ≠ j → Disjoint (band (arr c i) 512) (band (arr c j) 512) := by
  intro i _ j _ hne
  refine Finset.disjoint_left.mpr fun x hx hy => hne (arr_inj c i j ?_)
  have h1 := mem_band.mp hx
  have h2 := mem_band.mp hy
  have := arr_dvd c i
  have := arr_dvd c j
  omega

/-- The device's own rows are disjoint from all that arrives. -/
theorem own_disjoint (c : Dev nD) : Disjoint (band (2048 * c.val) 2048) (Finset.univ.biUnion fun j : J => band (arr c j) 512) := by
  refine (Finset.disjoint_biUnion_right _ _ _).mpr fun j _ => Finset.disjoint_left.mpr fun x hx hy => arr_other c j ?_
  have h1 := mem_band.mp hx
  have h2 := mem_band.mp hy
  have := arr_dvd c j
  omega

/-- The device's own rows and all that arrives make up the whole result. -/
theorem own_union (c : Dev nD) : band (2048 * c.val) 2048 ∪ (Finset.univ.biUnion fun j : J => band (arr c j) 512) = Finset.univ := by
  refine Finset.eq_univ_iff_forall.mpr fun x => Finset.mem_union.mpr ?_
  have hx : (x 0).val < 32768 := (x 0).isLt
  by_cases h : (x 0).val / 2048 = c.val
  · exact .inl (mem_band.mpr (by omega))
  · obtain ⟨j, hj⟩ := arr_all c ⟨(x 0).val / 512, by omega⟩ (by show (x 0).val / 512 / 4 ≠ c.val; omega)
    have hj : arr c j = 512 * ((x 0).val / 512) := hj
    exact .inr (Finset.mem_biUnion.mpr ⟨j, Finset.mem_univ _, mem_band.mpr (by omega)⟩)

/-! ## The views, by their first row -/

/-- The rectangle of 512 rows from row `b`. -/
def oR (b : ℕ) (hb : b + 512 ≤ 32768) : Rect S32768x512 :=
  Rect.unit (s := S32768x512) ![b, 0] S512x512.size (by
    intro a; match a with
    | ⟨0, _⟩ => exact hb
    | ⟨1, _⟩ => exact Nat.le_refl _)

/-- The rectangle takes every row and column. -/
theorem oR_stride (b : ℕ) (hb : b + 512 ≤ 32768) (a : Fin 2) : (oR b hb).stride a = 1 := rfl

/-- Those rows of the result. -/
def oV (b : ℕ) (hb : b + 512 ≤ 32768) : Memref sig .tc .hbm S512x512 .bf16 := oM.slice (oR b hb) (oR_stride b hb)

/-- Row `x` of the rectangle is the result's row `b + x`. -/
theorem oR_emb0 (b : ℕ) (hb : b + 512 ≤ 32768) (x : S512x512.Idx) : ((oR b hb).emb x 0).val = b + (x 0).val := by
  show b + 1 * (x 0).val = _; omega
/-- The rectangle keeps the columns. -/
theorem oR_emb1 (b : ℕ) (hb : b + 512 ≤ 32768) (x : S512x512.Idx) : ((oR b hb).emb x 1).val = (x 1).val := by
  show 0 + 1 * (x 1).val = _; omega

/-- The first row that the body computes for a transfer to the right is the first that it carries. -/
theorem off2_eq : ∀ (c : Dev nD) (j : J), isR j = true → k0_off2 c (k0_off2_at (row j)).1 (k0_off2_at (row j)).2 0 = rowOf c j := by decide +kernel
/-- The first row that the body computes for a transfer to the left is the first that it carries. -/
theorem off3_eq : ∀ (c : Dev nD) (j : J), isR j = false → k0_off3 c (k0_off3_at (row j)).1 (k0_off3_at (row j)).2 0 = rowOf c j := by decide +kernel

/-- Equal offsets give the same view. -/
theorem slice_congr {o o' : Fin 2 → ℕ} (h : ∀ a, o a + S512x512.size a ≤ S32768x512.size a) (h' : ∀ a, o' a + S512x512.size a ≤ S32768x512.size a) (e : o = o') :
    oM.slice (Rect.unit (s := S32768x512) o S512x512.size h) (fun _ => rfl) = oM.slice (Rect.unit (s := S32768x512) o' S512x512.size h') (fun _ => rfl) := by
  subst e; rfl

/-- The rows a transfer carries, as a view of the result. -/
theorem outV_eq (c : Dev nD) (j : J) : outV c j = oV (rowOf c j) (rowOf_le c j) := by
  unfold outV oV oR
  split
  · rename_i h
    exact slice_congr _ _ (funext fun a => match a with | ⟨0, _⟩ => off2_eq c j h | ⟨1, _⟩ => rfl)
  · rename_i h
    exact slice_congr _ _ (funext fun a => match a with | ⟨0, _⟩ => off3_eq c j h | ⟨1, _⟩ => rfl)

/-- The rectangle is a band. -/
theorem oR_set (b : ℕ) (hb : b + 512 ≤ 32768) : (oR b hb).set = band b 512 := by
  ext i
  unfold oR
  rw [Rect.mem_set_unit, mem_band]
  constructor
  · intro h; exact h 0
  · intro h a
    match a with
    | ⟨0, _⟩ => exact h
    | ⟨1, _⟩ => exact ⟨Nat.zero_le _, (i 1).isLt.trans_le (by show 512 ≤ 0 + 512; decide)⟩

/-- The view of 512 rows of the result covers their band. -/
theorem oV_set (b : ℕ) (hb : b + 512 ≤ 32768) : (oV b hb).view.set = band b 512 := by
  show ((View.whole main_v1).slice _).set = _
  rw [View.set_slice_whole, oR_set]

/-- The first row that the own copy writes is the first of the device's own block. -/
theorem off1_eq : ∀ c : Dev nD, k0_off1 c 0 = 2048 * c.val := by decide +kernel

/-- The own copy writes the device's own rows. -/
theorem blkV_set (c : Dev nD) : (blkV c).view.set = band (2048 * c.val) 2048 := by
  unfold blkV
  show ((View.whole main_v1).slice _).set = _
  rw [View.set_slice_whole]
  ext i
  rw [Rect.mem_set_unit, mem_band, ← off1_eq c]
  constructor
  · intro h; exact h 0
  · intro h a
    match a with
    | ⟨0, _⟩ => exact h
    | ⟨1, _⟩ => exact ⟨Nat.zero_le _, (i 1).isLt.trans_le (by show 512 ≤ 0 + 512; decide)⟩

/-! ## The contents -/

/-- The block staged on device `c`. -/
def xstg (c : Dev nD) : (cc0_stg0_0 : Ref sig .tc).ty.Contents (Elt F) :=
  (win0_0.blk (0 : Fin 1)).view.read (Elt F) ((s₀ m ρ).mem ((c : Thread nD τ).loc main_arg0))

/-- Where row `i` of the result sits in its device's block. -/
def inBlk (i : S32768x512.Idx) : S2048x512.Idx := fun a => match a with
  | ⟨0, _⟩ => ⟨(i 0).val % 2048, Nat.mod_lt _ (by decide)⟩
  | ⟨1, _⟩ => i 1

/-- The device whose block row `i` of the result comes from. -/
def ofBlk (i : S32768x512.Idx) : Dev nD := ⟨(i 0).val / 2048, by have : (i 0).val < 32768 := (i 0).isLt; show _ < 16; omega⟩

/-- What every device ends with: the blocks of all the devices, one below another. -/
def gath : (main_v1 : Ref sig .tc).ty.Contents (Elt F) := fun i => xstg m ρ (ofBlk i) (inBlk i)

end Cert.RingGather

end
-- ==== Proof.Contents.lean ====
/-
# Contents under a view

Memory seen through a transfer's views, and seen as rows of the result: the two readings agree, and what a transfer writes
is what the result is to hold.
-/
module

public import proofs.«01_k».proof.Proof.Rows

@[expose] public section

noncomputable section

namespace Cert.RingGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg)

/-- The elements `S` of device `c`'s result array, at contents `f`. -/
def pts (c : Dev nD) (S : Finset S32768x512.Idx) (f : (main_v1 : Ref sig .tc).ty.Contents (Elt F)) : sProp 𝕄 :=
  ((c : Thread nD τ).loc main_v1) ↦[S]{fullShare} f

/-- The elements of piece `p` of a block. -/
def piece (p : Fin 4) : Finset S2048x512.Idx := Finset.univ.filter fun i => 512 * p.val ≤ (i 0).val ∧ (i 0).val < 512 * p.val + 512

/-- A share `q` of piece `p` of device `c`'s own block, at the block's contents. -/
def own (c : Dev nD) (p : Fin 4) (q : PosShare TreeShare) : sProp 𝕄 :=
  ((c : Thread nD τ).loc cc0_scratch0) ↦[piece p]{q} (xstg m ρ c : (cc0_stg0_0 : Ref sig .tc).ty.Contents (Elt F))

/-- A share `q` of the whole of it. -/
def ownAll (c : Dev nD) (q : PosShare TreeShare) : sProp 𝕄 :=
  ((c : Thread nD τ).loc cc0_scratch0) ↦[Finset.univ]{q} (xstg m ρ c : (cc0_stg0_0 : Ref sig .tc).ty.Contents (Elt F))

omit [FloatOps F] in
/-- Rows of a result may be kept in an invariant. -/
instance pts_storable (c : Dev nD) (S f) : BI.Storable (upEmb : UEmb _ 𝕄) (pts (F := F) c S f) := by unfold pts; infer_instance
omit [FloatOps F] in
/-- A piece of the block in scratch may be kept in an invariant. -/
instance own_storable (c : Dev nD) (p q) : BI.Storable (upEmb : UEmb _ 𝕄) (own (F := F) m ρ c p q) := by unfold own; infer_instance
omit [FloatOps F] in
/-- The whole block in scratch may be kept in an invariant. -/
instance ownAll_storable (c : Dev nD) (q) : BI.Storable (upEmb : UEmb _ 𝕄) (ownAll (F := F) m ρ c q) := by unfold ownAll; infer_instance

/-- What the result holds in the rows transfer `j` of device `c` carries. -/
def carried (c : Dev nD) (j : J) : S512x512.Idx → Elt F .bf16 := fun x => gath m ρ ((oR (rowOf c j) (rowOf_le c j)).emb x)

section Views
variable (V : Memref sig .tc .hbm S512x512 .bf16) (b : ℕ) (hb : b + 512 ≤ 32768) (hV : V = oV b hb)
include hV

omit [FloatOps F] in
/-- Rows of the result are the memory of a view of them, which reads the rows' contents. -/
theorem pts_view (c : Dev nD) (f : (main_v1 : Ref sig .tc).ty.Contents (Elt F)) :
    pts c (band b 512) f ⊢ (iprop(∃ g : Buf (Elt F) (V.view.loc (c : Thread nD τ)), ⌜V.view.read (Elt F) g = fun x => f ((oR b hb).emb x)⌝
      ∗ V.view.loc (c : Thread nD τ) ↦[V.view.set]{fullShare} g) : sProp 𝕄) := by
  subst hV
  unfold pts
  iintro H
  iexists f
  isplitr
  · ipureintro; rfl
  · rw [oV_set]
    iexact H

omit [FloatOps F] in
/-- The memory of a view of rows of the result that reads `f` there is those rows holding `f`. -/
theorem view_pts (c : Dev nD) (f : (main_v1 : Ref sig .tc).ty.Contents (Elt F)) (g : Buf (Elt F) (V.view.loc (c : Thread nD τ)))
    (hg : V.view.read (Elt F) g = fun x => f ((oR b hb).emb x)) :
    (V.view.loc (c : Thread nD τ) ↦[V.view.set]{fullShare} g : sProp 𝕄) ⊢ pts c (band b 512) f := by
  subst hV
  unfold pts
  rw [oV_set]
  refine Entails.of_eq (pointsTo_congr fun i hi => ?_)
  have hi : i ∈ (oR b hb).set := (oR_set b hb).symm ▸ hi
  rw [← Rect.map_emb_univ] at hi
  obtain ⟨x, _, rfl⟩ := Finset.mem_map.mp hi
  exact congrFun hg x

end Views

omit [FloatOps F] in
/-- A piece of the device's own block is what the result is to hold in the piece's rows. -/
theorem own_read (c : Dev nD) (j : J) (hj : j.val < 8) :
    (ownV (pc j)).view.read (Elt F) (xstg m ρ c : (cc0_stg0_0 : Ref sig .tc).ty.Contents (Elt F)) = carried m ρ c j := by
  have hp := pc_lt j
  have hc : c.val < 16 := c.isLt
  have hr := rowOf_first c j hj
  funext x
  have hx : (x 0).val < 512 := (x 0).isLt
  have e0 := oR_emb0 (rowOf c j) (rowOf_le c j) x
  have e1 := oR_emb1 (rowOf c j) (rowOf_le c j) x
  have h1 : ofBlk ((oR (rowOf c j) (rowOf_le c j)).emb x) = c := Fin.ext (by
    show ((oR (rowOf c j) (rowOf_le c j)).emb x 0).val / 2048 = c.val
    omega)
  unfold carried gath
  rw [h1]
  refine congrArg (xstg m ρ c) (funext fun a => ?_)
  match a with
  | ⟨0, _⟩ =>
    refine Fin.ext ?_
    show 512 * (pc j).val + 1 * (x 0).val = ((oR (rowOf c j) (rowOf_le c j)).emb x 0).val % 2048
    omega
  | ⟨1, _⟩ =>
    refine Fin.ext ?_
    show 0 + 1 * (x 1).val = ((oR (rowOf c j) (rowOf_le c j)).emb x 1).val
    omega

omit [FloatOps F] in
/-- The own block, copied into the result, is what the result is to hold in the block's rows. -/
theorem copy_lands (c : Dev nD) (g : Buf (Elt F) ((blkV c).view.loc (c : Thread nD τ))) :
    ((blkV c).view.loc (c : Thread nD τ) ↦[(blkV c).view.set]{fullShare}
        ((blkV c).view.write (Elt F) g ((wM : Memref sig .tc .vmem S2048x512 .bf16).view.read (Elt F) (xstg m ρ c : (cc0_stg0_0 : Ref sig .tc).ty.Contents (Elt F))) Finset.univ) : sProp 𝕄)
      ⊢ pts c (band (2048 * c.val) 2048) (gath m ρ) := by
  unfold pts
  rw [← blkV_set]
  refine Entails.of_eq (pointsTo_congr fun i hi => ?_)
  have hc : c.val < 16 := c.isLt
  obtain ⟨x, _, rfl⟩ := Finset.mem_map.mp hi
  have hx : (x 0).val < 2048 := (x 0).isLt
  rw [View.write_emb_of_mem _ _ (Finset.mem_univ x)]
  let y : S32768x512.Idx := (blkV c).view.emb x
  have e0 : (y 0).val = k0_off1 c 0 + 1 * (x 0).val := rfl
  have e1 : (y 1).val = 0 + 1 * (x 1).val := rfl
  have e := off1_eq c
  have h1 : ofBlk y = c := Fin.ext (by
    show (y 0).val / 2048 = c.val
    omega)
  show xstg m ρ c x = xstg m ρ (ofBlk y) (inBlk y)
  rw [h1]
  refine congrArg (xstg m ρ c) (funext fun a => ?_)
  match a with
  | ⟨0, _⟩ =>
    refine Fin.ext ?_
    show (x 0).val = (y 0).val % 2048
    omega
  | ⟨1, _⟩ =>
    refine Fin.ext ?_
    show (x 1).val = (y 1).val
    omega

/-! ## Cutting the arrays -/

/-- The view of piece `p` covers the piece's rows of the scratch. -/
theorem ownV_set (p : Fin 4) : (ownV p).view.set = piece p := by
  unfold ownV piece
  show ((View.whole cc0_scratch0).slice _).set = _
  rw [View.set_slice_whole]
  ext i
  rw [Rect.mem_set_unit, Finset.mem_filter]
  constructor
  · intro h; exact ⟨Finset.mem_univ _, h 0⟩
  · intro h a
    match a with
    | ⟨0, _⟩ => exact h.2
    | ⟨1, _⟩ => exact ⟨Nat.zero_le _, (i 1).isLt.trans_le (by show 512 ≤ 0 + 512; decide)⟩

omit [FloatOps F] in
/-- The own block is its four pieces. -/
theorem own_pieces (c : Dev nD) (q : PosShare TreeShare) : ownAll (F := F) m ρ c q = bigSep Finset.univ fun p => own m ρ c p q := by
  have hu : (Finset.univ : Finset S2048x512.Idx) = (Finset.univ : Finset (Fin 4)).biUnion piece := by
    refine (Finset.eq_univ_iff_forall.mpr fun x => Finset.mem_biUnion.mpr ?_).symm
    have hx : (x 0).val < 2048 := (x 0).isLt
    refine ⟨⟨(x 0).val / 512, by omega⟩, Finset.mem_univ _, ?_⟩
    refine Finset.mem_filter.mpr ⟨Finset.mem_univ _, ?_⟩
    show 512 * ((x 0).val / 512) ≤ (x 0).val ∧ (x 0).val < 512 * ((x 0).val / 512) + 512
    omega
  unfold ownAll
  refine (congrArg (fun S : Finset S2048x512.Idx => (((c : Thread nD τ).loc cc0_scratch0) ↦[S]{q} (xstg m ρ c : (cc0_stg0_0 : Ref sig .tc).ty.Contents (Elt F)) : sProp 𝕄)) hu).trans ?_
  refine (pointsTo_biUnion (ℓ := (c : Thread nD τ).loc cc0_scratch0) Finset.univ piece fun p _ p' _ hne => ?_).trans rfl
  refine Finset.disjoint_left.mpr fun x hx hy => hne (Fin.ext ?_)
  have h1 := (Finset.mem_filter.mp hx).2
  have h2 := (Finset.mem_filter.mp hy).2
  omega

omit [FloatOps F] in
/-- The result array is the rows of the device's own block and all that arrives. -/
theorem out_pieces (c : Dev nD) (f : (main_v1 : Ref sig .tc).ty.Contents (Elt F)) :
    pts (F := F) c Finset.univ f = iprop(pts c (band (2048 * c.val) 2048) f ∗ bigSep Finset.univ fun j : J => pts c (band (arr c j) 512) f) := by
  have hu := pointsTo_union (Ix := Unit) (Name := ℕ) (U := UU) (Lvl := ℕ) (ℓ := (c : Thread nD τ).loc main_v1) (q := fullShare) (f := f) (own_disjoint c)
  have h := BI.equiv_iff.mp ⟨hu.1, hu.2⟩
  have h2 := pointsTo_biUnion (Ix := Unit) (Name := ℕ) (U := UU) (Lvl := ℕ) (ℓ := (c : Thread nD τ).loc main_v1) (q := fullShare) (f := f) Finset.univ (fun j : J => band (arr c j) 512) (arr_disjoint c)
  have h3 := own_union c
  unfold pts
  refine Eq.trans ?_ (h.trans (congrArg _ h2))
  exact congrArg (fun S : Finset S32768x512.Idx => (((c : Thread nD τ).loc main_v1) ↦[S]{fullShare} f : sProp 𝕄)) h3.symm

end Cert.RingGather

end
-- ==== Proof.Protocol.lean ====
/-
# The discipline of the semaphores

Which signal or transfer pays into which counter, what memory comes with the payment, and in which order the waits may be
made. Every counter is used once: the barrier by both neighbours, a transfer's two counters by the transfer.
-/
module

public import proofs.«01_k».proof.Proof.Contents

@[expose] public section

noncomputable section

namespace Cert.RingGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg)

/-! ## The counters -/

/-- Device `c`'s barrier. -/
abbrev barCell (c : Dev nD) : GSem nD τ sig := ((c : Thread nD τ), .reg barS)
/-- The counter of device `c`'s own copy. -/
abbrev copyCell (c : Dev nD) : GSem nD τ sig := ((c : Thread nD τ), .dma cS)
/-- The send counter of device `c`'s transfer `j`. -/
abbrev sendCell (c : Dev nD) (j : J) : GSem nD τ sig := ((c : Thread nD τ), .dma (sS j))
/-- The receive counter, at device `c`, of the transfer `j` that arrives there. -/
abbrev recvCell (c : Dev nD) (j : J) : GSem nD τ sig := ((c : Thread nD τ), .dma (rS j))

/-- The kernel's own counters: the own copy's, the transfers' send counters, their receive counters. -/
abbrev Slot : Type := Unit ⊕ (J ⊕ J)
/-- The semaphore of each of the kernel's own counters. -/
abbrev osem : Slot → SemLoc sig := fun | .inl _ => .dma cS | .inr (.inl j) => .dma (sS j) | .inr (.inr j) => .dma (rS j)
/-- The semaphores that the proof follows: the barrier and the kernel's own. -/
abbrev csem : Unit ⊕ Slot → SemLoc sig := fun | .inl _ => .reg barS | .inr k => osem k
/-- The counters that the proof follows, with their devices. -/
abbrev kcell (ck : Dev nD × (Unit ⊕ Slot)) : GSem nD τ sig := ((ck.1 : Thread nD τ), csem ck.2)

/-- The transfer whose send counter a semaphore is, if any. -/
def sendAt (q : DmaSem sig) : Option J := (List.finRange 60).find? fun j => sS j == q
/-- The transfer whose receive counter a semaphore is, if any. -/
def recvAt (q : DmaSem sig) : Option J := (List.finRange 60).find? fun j => rS j == q

/-- A transfer's send counter is known as its send counter. -/
theorem sendAt_send : ∀ j, sendAt (sS j) = some j := by decide +kernel
/-- A transfer's receive counter is known as its receive counter. -/
theorem recvAt_recv : ∀ j, recvAt (rS j) = some j := by decide +kernel
/-- A send counter is nobody's receive counter. -/
theorem recvAt_send : ∀ j, recvAt (sS j) = none := by decide +kernel
/-- No send counter is the own copy's. -/
theorem send_ne_copy : ∀ j, sS j ≠ cS := by decide +kernel
/-- No receive counter is the own copy's. -/
theorem recv_ne_copy : ∀ j, rS j ≠ cS := by decide +kernel

/-- The credit of a transfer's 512 rows. -/
abbrev N : ℕ := (ownV 0).view.dmaCredit
/-- The credit of the own copy's 2048 rows. -/
abbrev NC : ℕ := (wM : Memref sig .tc .vmem S2048x512 .bf16).view.dmaCredit
/-- A transfer pays something. -/
theorem N_pos : 0 < N := View.dmaCredit_pos _ (by decide)
/-- The own copy pays something. -/
theorem NC_pos : 0 < NC := View.dmaCredit_pos _ (by decide)

/-- A transfer's rows of the result are worth the credit of 512 rows. -/
theorem outV_credit (c : Dev nD) (j : J) : (outV c j).view.dmaCredit = N := by rw [outV_eq]
/-- A piece of the block in scratch is worth the credit of 512 rows. -/
theorem ownV_credit (p : Fin 4) : (ownV p).view.dmaCredit = N := rfl
/-- A device's own rows of the result are worth the credit of 2048 rows. -/
theorem blkV_credit (c : Dev nD) : (blkV c).view.dmaCredit = NC := rfl

/-! ## What comes with the payments -/

/-- The share of the own block a first hop reads it at: one half is the own copy's, a quarter each is for each direction. -/
def qOf (j : J) : PosShare TreeShare := if isR j then fullShare.right.left else fullShare.right.right

/-- What a neighbour's signal hands `c`: the rows, in the neighbour's result, that `c`'s transfers to it write. -/
def barPay (c : Dev nD) (d : Bool) : sProp 𝕄 :=
  bigSep (Finset.univ.filter fun j : J => isR j = d) fun j => iprop(∃ f, pts (dst c j) (band (rowOf c j) 512) f)
/-- What arrives with a transfer: its rows, holding what they are to hold. -/
def recvPay (c : Dev nD) (j : J) : sProp 𝕄 := pts c (band (arr c j) 512) (gath m ρ)
/-- What a transfer gives back once it has left: the rows it read. -/
def sendPay (c : Dev nD) (j : J) : sProp 𝕄 := if j.val < 8 then own m ρ c (pc j) (qOf j) else pts c (band (rowOf c j) 512) (gath m ρ)
/-- What the own copy gives back: the block's rows of the result, and its share of the block. -/
def copyPay (c : Dev nD) : sProp 𝕄 := iprop(pts c (band (2048 * c.val) 2048) (gath m ρ) ∗ ownAll m ρ c fullShare.left)

omit [FloatOps F] in
/-- A first hop gives back its share of its piece of the own block. -/
theorem sendPay_first (c : Dev nD) (j : J) (h : j.val < 8) : sendPay (F := F) m ρ c j = own m ρ c (pc j) (qOf j) := if_pos h
omit [FloatOps F] in
/-- A later hop sends what has arrived with the lane's previous hop. -/
theorem sendPay_later (c : Dev nD) (j : J) (h : 8 ≤ j.val) : sendPay (F := F) m ρ c j = recvPay m ρ c (pred j) := by
  unfold sendPay recvPay; rw [if_neg (by omega), rowOf_later c j h]
omit [FloatOps F] in
/-- What arrives at the end of a transfer is the rows that the transfer carries. -/
theorem recvPay_dst (c : Dev nD) (j : J) : recvPay (F := F) m ρ (dst c j) j = pts (dst c j) (band (rowOf c j) 512) (gath m ρ) := by
  unfold recvPay arr; rw [src_dst]

/-- The payments: one round, round 0. A barrier has one duty of one unit for each neighbour, every other counter one duty
    of its transfer's credit. -/
def ringRd : Rounds.Schedule (GSem nD τ sig) Bool 𝕄 where
  duties g r := if r = 0 ∧ g.1.2 = .tc then (match g.2 with | .reg _ => Finset.univ | .dma _ => {false}) else ∅
  unitless _ := False
  amount g _ _ := match g.2 with | .reg _ => 1 | .dma q => if q = cS then NC else N
  payload g _ d := match g.2 with
    | .reg _ => barPay g.1.1 d
    | .dma q => if q = cS then copyPay m ρ g.1.1 else match recvAt q with
      | some j => recvPay m ρ g.1.1 j
      | none => match sendAt q with
        | some j => sendPay m ρ g.1.1 j
        | none => iprop(emp)
  amount_pos g _ _ _ := by
    split
    · exact Nat.one_pos
    · split
      · exact NC_pos
      · exact N_pos

omit [FloatOps F] in
/-- What a signal brings may be kept in an invariant. -/
instance barPay_storable (c : Dev nD) (d) : BI.Storable (upEmb : UEmb _ 𝕄) (barPay (F := F) c d) := by unfold barPay; infer_instance
omit [FloatOps F] in
/-- What an arrival brings may be kept in an invariant. -/
instance recvPay_storable (c : Dev nD) (j) : BI.Storable (upEmb : UEmb _ 𝕄) (recvPay (F := F) m ρ c j) := by unfold recvPay; infer_instance
omit [FloatOps F] in
/-- What a departure brings back may be kept in an invariant. -/
instance sendPay_storable (c : Dev nD) (j) : BI.Storable (upEmb : UEmb _ 𝕄) (sendPay (F := F) m ρ c j) := by unfold sendPay; split <;> infer_instance
omit [FloatOps F] in
/-- What the own copy brings back may be kept in an invariant. -/
instance copyPay_storable (c : Dev nD) : BI.Storable (upEmb : UEmb _ 𝕄) (copyPay (F := F) m ρ c) := by unfold copyPay; infer_instance

omit [FloatOps F] in
/-- Whatever comes with a payment may be kept in an invariant. -/
instance ringRd_payload_storable (g : GSem nD τ sig) (r : ℕ) (d : Bool) :
    BI.Storable (upEmb : UEmb _ 𝕄) ((ringRd (F := F) m ρ).payload g r d) := by
  dsimp only [ringRd]
  (repeat' split) <;> infer_instance

section Sched
variable (c : Dev nD) (j : J)

omit [FloatOps F] in
/-- A barrier is paid twice in round 0, once for each direction. -/
theorem duties_bar : (ringRd (F := F) m ρ).duties (barCell c) 0 = Finset.univ := by simp only [ringRd, and_self, ↓reduceIte]
omit [FloatOps F] in
/-- Any other counter is paid once in round 0. -/
theorem duties_dma (q : DmaSem sig) : (ringRd (F := F) m ρ).duties ((c : Thread nD τ), .dma q) 0 = {false} := by simp only [ringRd, and_self, ↓reduceIte]
omit [FloatOps F] in
/-- No counter is paid after round 0. -/
theorem duties_later (g : GSem nD τ sig) (r : ℕ) (hr : 1 ≤ r) : (ringRd (F := F) m ρ).duties g r = ∅ :=
  if_neg fun h => absurd (h.1 ▸ hr) (by decide)

omit [FloatOps F] in
/-- A signal pays a barrier one unit. -/
theorem amount_bar (d : Bool) : (ringRd (F := F) m ρ).amount (barCell c) 0 d = 1 := rfl
omit [FloatOps F] in
/-- The own copy pays its counter the credit of 2048 rows. -/
theorem amount_copy (d : Bool) : (ringRd (F := F) m ρ).amount (copyCell c) 0 d = NC := by simp only [ringRd, ↓reduceIte]
omit [FloatOps F] in
/-- A departure pays a send counter the credit of 512 rows. -/
theorem amount_send (d : Bool) : (ringRd (F := F) m ρ).amount (sendCell c j) 0 d = N := if_neg (send_ne_copy j)
omit [FloatOps F] in
/-- An arrival pays a receive counter the credit of 512 rows. -/
theorem amount_recv (d : Bool) : (ringRd (F := F) m ρ).amount (recvCell c j) 0 d = N := if_neg (recv_ne_copy j)

omit [FloatOps F] in
/-- A barrier expects two units in all. -/
theorem expect_bar : (ringRd (F := F) m ρ).expect (barCell c) 0 = 2 :=
  (congrArg (fun S : Finset Bool => ∑ _d ∈ S, 1) (duties_bar m ρ c)).trans rfl
omit [FloatOps F] in
/-- Any other counter expects its one payment. -/
theorem expect_dma (q : DmaSem sig) : (ringRd (F := F) m ρ).expect ((c : Thread nD τ), .dma q) 0 = (ringRd (F := F) m ρ).amount ((c : Thread nD τ), .dma q) 0 false := by
  unfold Schedule.expect Schedule.amountOf; rw [duties_dma, Finset.sum_singleton]

omit [FloatOps F] in
/-- A signal brings the rows that the device's transfers to the signaller write. -/
theorem payload_bar (d : Bool) : (ringRd (F := F) m ρ).payload (barCell c) 0 d = barPay c d := rfl
omit [FloatOps F] in
/-- The end of the own copy brings the device's own rows of the result and its share of the block. -/
theorem payload_copy (d : Bool) : (ringRd (F := F) m ρ).payload (copyCell c) 0 d = copyPay m ρ c := by simp only [ringRd, ↓reduceIte]
omit [FloatOps F] in
/-- A departure brings back the rows that the transfer read. -/
theorem payload_send (d : Bool) : (ringRd (F := F) m ρ).payload (sendCell c j) 0 d = sendPay m ρ c j :=
  (if_neg (send_ne_copy j)).trans (by rw [recvAt_send, sendAt_send])
omit [FloatOps F] in
/-- An arrival brings the rows that the transfer wrote. -/
theorem payload_recv (d : Bool) : (ringRd (F := F) m ρ).payload (recvCell c j) 0 d = recvPay m ρ c j :=
  (if_neg (recv_ne_copy j)).trans (by rw [recvAt_recv])

omit [FloatOps F] in
/-- All a barrier's round brings: every row that the device's transfers write at its neighbours. -/
theorem rest_bar : bigSep ((ringRd (F := F) m ρ).duties (barCell c) 0 \ ∅) (fun d => (ringRd (F := F) m ρ).payload (barCell c) 0 d)
    = bigSep Finset.univ fun j : J => iprop(∃ f, pts (F := F) (dst c j) (band (rowOf c j) 512) f) := by
  rw [Finset.sdiff_empty, duties_bar, bigSep_univ_eq_bigSepL [true, false] (by decide) (by decide), bigSepL_cons_cons, bigSepL_singleton,
    payload_bar, payload_bar, bigSep_filter_split Finset.univ (fun j : J => isR j = true)]
  unfold barPay
  simp only [Bool.not_eq_true]
omit [FloatOps F] in
/-- All that the one round of another counter brings. -/
theorem rest_dma (q : DmaSem sig) : bigSep ((ringRd (F := F) m ρ).duties ((c : Thread nD τ), .dma q) 0 \ ∅) (fun d => (ringRd (F := F) m ρ).payload ((c : Thread nD τ), .dma q) 0 d)
    = (ringRd (F := F) m ρ).payload ((c : Thread nD τ), .dma q) 0 false := by
  rw [Finset.sdiff_empty, duties_dma, bigSep_singleton]

end Sched

/-! ## What each device owes, and the order of the waits -/

/-- The receive credits device `c` owes for the transfers in `S`. -/
def owed (c : Dev nD) (S : Finset J) : CellTallies nD τ sig Unit := ∑ j ∈ S, tallyAt (recvCell (dst c j) j) () N

/-- With one more transfer, that transfer's receive credit is owed too. -/
theorem owed_insert (c : Dev nD) (S : Finset J) (j : J) (h : j ∉ S) : owed c (insert j S) = owed c S + tallyAt (recvCell (dst c j) j) () N := by
  unfold owed; rw [Finset.sum_insert h, add_comm]

/-- What a device owes once it has signalled the left neighbour: all its transfers and the other signal. -/
def O₁ (c : Dev nD) : CellTallies nD τ sig Unit := owed c Finset.univ + tallyAt (barCell (right c)) () 1
/-- What a device owes at launch: all its transfers and its two signals. -/
def O₀ (c : Dev nD) : CellTallies nD τ sig Unit := O₁ c + tallyAt (barCell (left c)) () 1

/-- Debts are kept for the counters of TensorCores. -/
def L (g : GSem nD τ sig) : Finset Unit := if g.1.2 = .tc then {()} else ∅
/-- The level of a counter: a barrier's is 1, the receive counter's of hop `h` is `2 + h`, any other's is 0. -/
def lv (g : GSem nD τ sig) (_ : Unit) : ℕ := match g.2 with
  | .reg _ => 1
  | .dma q => match recvAt q with | some j => 2 + hop j | none => 0

/-- No debts are kept for other counters. -/
theorem L_of_ne (g : GSem nD τ sig) (h : g.1.2 ≠ .tc) : L g = ∅ := if_neg h
/-- A device's counters are counters of TensorCores. -/
theorem L_tc (c : Dev nD) (sm : SemLoc sig) : L ((c : Thread nD τ), sm) = {()} := if_pos rfl

/-- Barriers have level 1. -/
theorem lv_bar (c : Dev nD) : lv (barCell c) () = 1 := rfl
/-- The receive counter of a transfer has level two more than its hop. -/
theorem lv_recv (c : Dev nD) (j : J) : lv (recvCell c j) () = 2 + hop j := by dsimp only [lv]; rw [recvAt_recv]

/-- A debt to one counter is a debt to no other. -/
theorem tally_pos {g g' : GSem nD τ sig} {n : ℕ} {u : Unit} (h : 0 < (tallyAt g' () n : CellTallies nD τ sig Unit) g u) : g = g' := by
  rw [tallyAt_apply] at h
  exact (ite_ne_right_iff.mp (Nat.ne_of_gt h)).1.1

/-- Whatever is owed for a set of transfers is owed to the receive counter of one of them. -/
theorem owed_pos {c : Dev nD} {S : Finset J} {g : GSem nD τ sig} {u : Unit} (h : 0 < owed c S g u) : ∃ j ∈ S, g = recvCell (dst c j) j := by
  induction S using Finset.induction_on with
  | empty => unfold owed at h; rw [Finset.sum_empty] at h; exact absurd h (Nat.lt_irrefl 0)
  | insert j S hj ih =>
    rw [owed_insert c S j hj, Pi.add_apply, Finsupp.add_apply] at h
    rcases Nat.add_pos_iff_pos_or_pos.mp h with h | h
    · obtain ⟨i, hi, e⟩ := ih h
      exact ⟨i, Finset.mem_insert_of_mem hi, e⟩
    · exact ⟨j, Finset.mem_insert_self _ _, tally_pos h⟩

/-- All that a device owes at launch lies above level 0. -/
theorem O₀_above {c : Dev nD} {g : GSem nD τ sig} {u : Unit} (h : 0 < O₀ c g u) : g.1.2 = .tc ∧ 0 < lv g u := by
  unfold O₀ O₁ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨j, _, rfl⟩ := owed_pos h
      exact ⟨rfl, (lv_recv (dst c j) j).symm ▸ (by omega)⟩
    · obtain rfl := tally_pos h; exact ⟨rfl, Nat.one_pos⟩
  · obtain rfl := tally_pos h; exact ⟨rfl, Nat.one_pos⟩

omit [FloatOps F] in
/-- A wait is in order when all that its device owes lies above the counter it waits on. -/
theorem mayWait_below (c : Dev nD) (sm : SemLoc sig) (O : CellTallies nD τ sig Unit)
    (h : ∀ g u, 0 < O g u → g.1.2 = .tc ∧ lv ((c : Thread nD τ), sm) () < lv g u) :
    (levAts L lv : sProp 𝕄) ⊢ MayWait (c : Thread nD τ) sm () O := by
  refine MayOwe.of_cut (L := L) (lev := lv) (lv ((c : Thread nD τ), sm) ()) ?_ ?_ ?_ fun g u hg => (h g u hg).2
  · intro p hp; obtain rfl := Finset.mem_singleton.mp hp; rw [L_tc]; exact Finset.mem_singleton_self _
  · intro g u hg; unfold L; rw [if_pos (h g u hg).1]; exact Finset.mem_singleton_self _
  · intro p hp; obtain rfl := Finset.mem_singleton.mp hp; exact Nat.le_refl _

omit [FloatOps F] in
/-- A wait on a counter is in order when its level is below that of the receive counter of every transfer still owed. -/
theorem mayWait_owed (c : Dev nD) (sm : SemLoc sig) (S : Finset J) (h : ∀ j ∈ S, lv ((c : Thread nD τ), sm) () < 2 + hop j) :
    (levAts L lv : sProp 𝕄) ⊢ MayWait (c : Thread nD τ) sm () (owed c S) :=
  mayWait_below c sm _ fun g u hg => by
    obtain ⟨j, hj, rfl⟩ := owed_pos hg
    exact ⟨rfl, (lv_recv (dst c j) j).symm ▸ h j hj⟩

omit [FloatOps F] in
/-- A wait on a counter that is no receive counter is in order, both with all the debt of the launch and with none. -/
theorem mayWait_stage (c : Dev nD) (q : DmaSem sig) (hq : recvAt q = none) (O : CellTallies nD τ sig Unit) (hO : O = O₀ c ∨ O = 0) :
    (levAts L lv : sProp 𝕄) ⊢ MayWait (c : Thread nD τ) (.dma q) () O :=
  mayWait_below c _ O fun g u hg => by
    have h0 : lv ((c : Thread nD τ), .dma q) () = 0 := by dsimp only [lv]; rw [hq]
    rw [h0]
    rcases hO with rfl | rfl
    · exact O₀_above hg
    · exact absurd hg (Nat.lt_irrefl 0)

end Cert.RingGather

end
-- ==== Proof.Steps.lean ====
/-
# One operation at a time

What a wait, a transfer and a list of them do to the memory and the credits a device holds.
-/
module

public import proofs.«01_k».proof.Proof.Protocol

@[expose] public section

noncomputable section

namespace Cert.RingGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg)

/-- No loop of the program needs a variant. -/
abbrev 𝒱₀ : Variants := Variants.none

/-- The counters of all devices, shared by all: each kept by its invariant and known to be in round 0. -/
def records (K : Dev nD × (Unit ⊕ Slot) → ℕ) : sProp 𝕄 :=
  iprop((bigSep Finset.univ fun ck : Dev nD × (Unit ⊕ Slot) => cellInv ER (ringRd m ρ) (K ck) (kcell ck))
    ∗ bigSep Finset.univ fun ck : Dev nD × (Unit ⊕ Slot) => reached ER (kcell ck) 0)

/-- The record of the counters can be used any number of times. -/
instance records_persistent (K : Dev nD × (Unit ⊕ Slot) → ℕ) : BI.Persistent (records m ρ K) := by unfold records; infer_instance

omit [FloatOps F] in
/-- The record holds each counter's invariant. -/
theorem inv_at (K : Dev nD × (Unit ⊕ Slot) → ℕ) (ck : Dev nD × (Unit ⊕ Slot)) :
    records m ρ K ⊢ (cellInv ER (ringRd m ρ) (K ck) (kcell ck) : sProp 𝕄) := by
  have h : (bigSep Finset.univ fun ck : Dev nD × (Unit ⊕ Slot) => (cellInv ER (ringRd m ρ) (K ck) (kcell ck) : sProp 𝕄)) ⊢ cellInv ER (ringRd m ρ) (K ck) (kcell ck) :=
    bigSep_elim (Finset.mem_univ ck)
  unfold records
  iintro ⟨#H, -⟩
  iapply h
  iexact H
omit [FloatOps F] in
/-- The record says that each counter has reached round 0. -/
theorem reached_at (K : Dev nD × (Unit ⊕ Slot) → ℕ) (ck : Dev nD × (Unit ⊕ Slot)) :
    records m ρ K ⊢ (reached ER (kcell ck) 0 : sProp 𝕄) := by
  have h : (bigSep Finset.univ fun ck : Dev nD × (Unit ⊕ Slot) => (reached ER (kcell ck) 0 : sProp 𝕄)) ⊢ reached ER (kcell ck) 0 :=
    bigSep_elim (Finset.mem_univ ck)
  unfold records
  iintro ⟨-, #H⟩
  iapply h
  iexact H

/-- What a device still owes, whatever it has waited for. -/
def debt (c : Dev nD) (O : CellTallies nD τ sig Unit) : sProp 𝕄 := iprop(∃ W : Waits sig Unit, owes (c : Thread nD τ) O W)

section Steps
variable (K : Dev nD × (Unit ⊕ Slot) → ℕ) (c : Dev nD)
variable {α : Type}

/-- A wait for the whole of a transfer counter's round: its payment comes in, and the counter is left at zero for good. -/
theorem wp_wait_dma {Q : α → sProp 𝕄} (x : Slot) (q : DmaSem sig) (hx : osem x = .dma q) (w : Op F) (n : ℕ)
    (hw : ∀ P : PUnit → sProp 𝕄, wpE (defs₀ (F := F)) 𝒱₀ (c : Thread nD τ) none Set.univ w P = waitSpec (c : Thread nD τ) Set.univ (.dma q) n P)
    (hn : (ringRd (F := F) m ρ).amount ((c : Thread nD τ), .dma q) 0 false = n) (O : CellTallies nD τ sig Unit)
    (k : PUnit → Prog (TpuEff nD τ sig (Elt F) Λ₀ .tc) α) :
    iprop(records m ρ K ∗ cred (tallyAt ((c : Thread nD τ), .dma q) () n) ∗ debt c O ∗ MayWait (c : Thread nD τ) (.dma q) () O
        ∗ atPos ER ((c : Thread nD τ), .dma q) 0 ∅ 0)
      ⊢ iprop(((debt c O ∗ semVal ((c : Thread nD τ), .dma q) 0 ∗ (ringRd m ρ).payload ((c : Thread nD τ), .dma q) 0 false)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  have hinv : records m ρ K ⊢ (cellInv ER (ringRd m ρ) (K (c, .inr x)) ((c : Thread nD τ), .dma q) : sProp 𝕄) := by
    have h := inv_at m ρ K (c, .inr x)
    have e : kcell (c, .inr x) = ((c : Thread nD τ), .dma q) := Prod.ext rfl hx
    rwa [e] at h
  unfold debt
  iintro ⟨#HR, Hc, ⟨%W, HO⟩, Hm, Hat⟩ Hk
  iapply (Rounds.wp_wait_rest_token 𝒱₀ ER (ringRd m ρ) (c : Thread nD τ) none (κ := K (c, .inr x)) hw (Set.mem_univ _) () (O := O) (W := W)
      (R := 0) (m := 0) (T := ∅) (by rw [Nat.zero_add, expect_dma, hn])) $$ [Hc HO Hm Hat]
  · isplitr; · iapply hinv; iexact HR
    isplitl [Hc]; · iexact Hc
    isplitl [HO]; · iexact HO
    isplitl [Hm]; · iexact Hm
    iexact Hat
  iintro ⟨HO, Hat, -, Hpay⟩
  ihave Hp := (Entails.of_eq (rest_dma m ρ c q)) $$ Hpay
  imod (Rounds.cell_close ER (ringRd m ρ) (Set.mem_univ (K (c, .inr x))) (fun h => h) (R := 0 + 1) (duties_later m ρ ((c : Thread nD τ), .dma q))) $$ [Hat] with Hz
  · isplitr; · iapply hinv; iexact HR
    iexact Hat
  iapply Hk
  isplitl [HO]; · iexists _; iexact HO
  isplitl [Hz]; · iexact Hz
  iexact Hp

/-- Waiting for an arrival is waiting for 512 rows' credit on the receive counter. -/
theorem recv_spec (j : J) (P : PUnit → sProp 𝕄) :
    wpE (defs₀ (F := F)) 𝒱₀ (c : Thread nD τ) none Set.univ (recv c j) P = waitSpec (c : Thread nD τ) Set.univ (.dma (rS j)) N P := by
  unfold recv
  split
  all_goals
    rw [wpE_waitDma2_eq 𝒱₀ (c : Thread nD τ) none Set.univ, outV_credit]

/-- Waiting for a departure is waiting for 512 rows' credit on the send counter. -/
theorem sent_spec (j : J) (P : PUnit → sProp 𝕄) :
    wpE (defs₀ (F := F)) 𝒱₀ (c : Thread nD τ) none Set.univ (sent c j) P = waitSpec (c : Thread nD τ) Set.univ (.dma (sS j)) N P := by
  unfold sent
  split
  · rw [wpE_waitDma2_eq 𝒱₀ (c : Thread nD τ) none Set.univ, ownV_credit]
  · rw [wpE_waitDma2_eq 𝒱₀ (c : Thread nD τ) none Set.univ, outV_credit]

/-- What waiting for an arrival takes. -/
def recvRes (j : J) : sProp 𝕄 := iprop(cred (tallyAt (recvCell c j) () N) ∗ atPos ER (recvCell c j) 0 ∅ 0)
/-- What waiting for a departure takes. -/
def sentRes (j : J) : sProp 𝕄 := iprop(cred (tallyAt (sendCell c j) () N) ∗ atPos ER (sendCell c j) 0 ∅ 0)
/-- What starting a transfer takes, besides the rows it reads: the right to pay its two counters, and the rows it writes. -/
def startRes (j : J) : sProp 𝕄 :=
  iprop(dutyTok ER (sendCell c j) 0 false ∗ dutyTok ER (recvCell (dst c j) j) 0 false ∗ ∃ f, pts (dst c j) (band (rowOf c j) 512) f)

/-- Waiting for an arrival: the rows come in. -/
theorem wp_recv {Q : α → sProp 𝕄} (j : J) (O : CellTallies nD τ sig Unit) (k : PUnit → Prog (TpuEff nD τ sig (Elt F) Λ₀ .tc) α) :
    iprop(records m ρ K ∗ recvRes c j ∗ debt c O ∗ MayWait (c : Thread nD τ) (.dma (rS j)) () O)
      ⊢ iprop(((debt c O ∗ semVal (recvCell c j) 0 ∗ recvPay m ρ c j)
            -∗ wp frame (wpE (defs₀ (F := F)) 𝒱₀ (c : Thread nD τ) none) Set.univ (k ⟨⟩) Q)
          -∗ wp frame (wpE (defs₀ (F := F)) 𝒱₀ (c : Thread nD τ) none) Set.univ (.op (recv c j) k) Q) := by
  have h := wp_wait_dma m ρ K c (Q := Q) (.inr (.inr j)) (rS j) rfl (recv c j) N (recv_spec c j) (amount_recv m ρ c j false) O k
  rw [payload_recv] at h
  unfold recvRes
  iintro ⟨#HR, ⟨Hc, Hat⟩, HO, Hm⟩
  iapply h
  isplitr; · iexact HR
  isplitl [Hc]; · iexact Hc
  isplitl [HO]; · iexact HO
  isplitl [Hm] <;> iassumption

/-- Waiting for a departure: the rows it read come back. -/
theorem wp_sent {Q : α → sProp 𝕄} (j : J) (k : PUnit → Prog (TpuEff nD τ sig (Elt F) Λ₀ .tc) α) :
    iprop(records m ρ K ∗ sentRes c j ∗ debt c 0)
      ⊢ iprop(((debt c 0 ∗ semVal (sendCell c j) 0 ∗ sendPay m ρ c j)
            -∗ wp frame (wpE (defs₀ (F := F)) 𝒱₀ (c : Thread nD τ) none) Set.univ (k ⟨⟩) Q)
          -∗ wp frame (wpE (defs₀ (F := F)) 𝒱₀ (c : Thread nD τ) none) Set.univ (.op (sent c j) k) Q) := by
  have h := wp_wait_dma m ρ K c (Q := Q) (.inr (.inl j)) (sS j) rfl (sent c j) N (sent_spec c j) (amount_send m ρ c j false) 0 k
  rw [payload_send] at h
  unfold sentRes
  iintro ⟨#HR, ⟨Hc, Hat⟩, HO⟩
  iapply h
  isplitr; · iexact HR
  isplitl [Hc]; · iexact Hc
  isplitl [HO]; · iexact HO
  isplitr; · rw [MayWait_zero]; iempintro
  iexact Hat

/-- Starting a transfer to the device `n` that it is addressed to, from any view holding what it is to carry. -/
theorem wp_start {Q : α → sProp 𝕄} (j : J) (n : Dev nD) (hn : n = dst c j) {sp : Space} (sv : Memref sig .tc sp S512x512 .bf16)
    {hsc : (outV c j : Memref sig (Dev.tc n : Thread nD τ).2.kind .hbm S512x512 .bf16).view.ref.isScScratch = false}
    {hsrc : sv.view.WordExact} {hdst : (outV c j).view.WordExact}
    {hsem : DmaTarget.Typed sp (.dma (rS j)) (.remote (Dev.tc n : Thread nD τ) (outV c j : Memref sig (Dev.tc n : Thread nD τ).2.kind .hbm S512x512 .bf16) (.dma (sS j)) hsc)}
    (q : PosShare TreeShare) (fs : Buf (Elt F) (sv.view.loc (c : Thread nD τ))) (hread : sv.view.read (Elt F) fs = carried m ρ c j)
    (hpay : (sv.view.loc (c : Thread nD τ) ↦[sv.view.set]{q} fs : sProp 𝕄) ⊢ sendPay m ρ c j)
    (S : Finset J) (hj : j ∉ S) (k : PUnit → Prog (TpuEff nD τ sig (Elt F) Λ₀ .tc) α) :
    iprop(records m ρ K ∗ (sv.view.loc (c : Thread nD τ) ↦[sv.view.set]{q} fs) ∗ startRes c j ∗ debt c (owed c (insert j S)))
      ⊢ iprop(((cred (tallyAt (sendCell c j) () N) ∗ debt c (owed c S))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sv (.remote (Dev.tc n : Thread nD τ) (outV c j) (.dma (sS j)) hsc) (.dma (rS j)) hsrc hdst hsem) k) Q) := by
  subst hn
  unfold startRes debt
  iintro ⟨#HR, Hs, ⟨Ht1, Ht2, ⟨%f, Hd⟩⟩, ⟨%W, HO⟩⟩ Hk
  ihave Hd' := (pts_view (outV c j) (rowOf c j) (rowOf_le c j) (outV_eq c j) (dst c j) f) $$ Hd
  icases Hd' with ⟨%fd, -, Hd⟩
  iapply (Rounds.wp_send_pointsTo 𝒱₀ ER (ringRd m ρ) (c : Thread nD τ) none (κ₁ := K (c, .inr (.inr (.inl j)))) (κ₂ := K (dst c j, .inr (.inr (.inr j))))
    (r₁ := 0) (r₂ := 0) (d₁ := false) (d₂ := false) (fd := fd) (fs := fs) (q := q)
    (by rw [duties_dma]; exact Finset.mem_singleton_self _) (by rw [duties_dma]; exact Finset.mem_singleton_self _)
    () () N (by show (outV c j).view.dmaCredit = N; exact outV_credit c j) (amount_send m ρ c j false) (amount_recv m ρ (dst c j) j false) (owed c S) (owed_insert c S j hj) (W := W)
    (by rw [payload_send]; exact hpay)
    (by rw [payload_recv, recvPay_dst]
        exact view_pts (outV c j) (rowOf c j) (rowOf_le c j) (outV_eq c j) (dst c j) (gath m ρ) _ ((View.read_write_univ _ _).trans hread))) $$ [Hs Hd HO Ht1 Ht2]
  · isplitr; · iapply (inv_at m ρ K (c, .inr (.inr (.inl j)))); iexact HR
    isplitr; · iapply (inv_at m ρ K (dst c j, .inr (.inr (.inr j)))); iexact HR
    isplitl [Hs]; · iexact Hs
    isplitl [Hd]; · iexact Hd
    isplitl [HO]; · iexact HO
    isplitl [Ht1]; · iexact Ht1
    isplitr; · iapply (reached_at m ρ K (c, .inr (.inr (.inl j)))); iexact HR
    isplitl [Ht2]; · iexact Ht2
    iapply (reached_at m ρ K (dst c j, .inr (.inr (.inr j)))); iexact HR
  iintro ⟨Hc, HO⟩
  iapply Hk
  isplitl [Hc]; · iexact Hc
  iexists W; iexact HO

/-- Starting a first hop takes its share of its piece of the device's own block. -/
theorem wp_start₀ {Q : α → sProp 𝕄} (j : J) (h : j.val < 8) (S : Finset J) (hj : j ∉ S) (k : PUnit → Prog (TpuEff nD τ sig (Elt F) Λ₀ .tc) α) :
    iprop(records m ρ K ∗ own m ρ c (pc j) (qOf j) ∗ startRes c j ∗ debt c (owed c (insert j S)))
      ⊢ iprop(((cred (tallyAt (sendCell c j) () N) ∗ debt c (owed c S))
            -∗ wp frame (wpE (defs₀ (F := F)) 𝒱₀ (c : Thread nD τ) none) Set.univ (k ⟨⟩) Q)
          -∗ wp frame (wpE (defs₀ (F := F)) 𝒱₀ (c : Thread nD τ) none) Set.univ (.op (start₀ c j) k) Q) := by
  have e : own (F := F) m ρ c (pc j) (qOf j) = ((ownV (pc j)).view.loc (c : Thread nD τ) ↦[(ownV (pc j)).view.set]{qOf j}
      (xstg m ρ c : (cc0_stg0_0 : Ref sig .tc).ty.Contents (Elt F))) := by
    rw [ownV_set]; rfl
  rw [e]
  exact wp_start m ρ K c j (devT c j) (devT_eq c j) (ownV (pc j)) (qOf j) _ (own_read m ρ c j h) (by rw [sendPay_first m ρ c j h, e]) S hj k

/-- Starting a later hop takes the rows that arrived with the lane's previous hop. -/
theorem wp_start₁ {Q : α → sProp 𝕄} (j : J) (h : 8 ≤ j.val) (S : Finset J) (hj : j ∉ S) (k : PUnit → Prog (TpuEff nD τ sig (Elt F) Λ₀ .tc) α) :
    iprop(records m ρ K ∗ recvPay m ρ c (pred j) ∗ startRes c j ∗ debt c (owed c (insert j S)))
      ⊢ iprop(((cred (tallyAt (sendCell c j) () N) ∗ debt c (owed c S))
            -∗ wp frame (wpE (defs₀ (F := F)) 𝒱₀ (c : Thread nD τ) none) Set.univ (k ⟨⟩) Q)
          -∗ wp frame (wpE (defs₀ (F := F)) 𝒱₀ (c : Thread nD τ) none) Set.univ (.op (start₁ c j) k) Q) := by
  have e : recvPay (F := F) m ρ c (pred j) = pts c (band (rowOf c j) 512) (gath m ρ) := by
    unfold recvPay; rw [rowOf_later c j h]
  rw [e]
  iintro ⟨#HR, Hs, Hst, HO⟩
  ihave Hs' := (pts_view (outV c j) (rowOf c j) (rowOf_le c j) (outV_eq c j) c (gath m ρ)) $$ Hs
  icases Hs' with ⟨%g, %hg, Hs⟩
  iapply (wp_start m ρ K c j (devT c j) (devT_eq c j) (outV c j) fullShare g hg
    ((view_pts (outV c j) (rowOf c j) (rowOf_le c j) (outV_eq c j) c (gath m ρ) g hg).trans (Entails.of_eq (by rw [sendPay_later m ρ c j h, e]))) S hj k)
  isplitr; · iexact HR
  isplitl [Hs]; · iexact Hs
  isplitl [Hst] <;> iassumption

/-! ## Lists of operations -/

/-- Running two lists one after the other is running them appended. -/
theorem run_append (l l' : List (Op F)) (k : Prog (TpuEff nD τ sig (Elt F) Λ₀ .tc) α) : run (l ++ l') k = run l (run l' k) := by
  induction l with
  | nil => rfl
  | cons e l ih => exact congrArg (fun p => Prog.op e fun _ => p) ih

omit [FloatOps F] in
/-- The resources of a list's elements are those of its head and those of the rest. -/
theorem bigSep_head {X : Type} [DecidableEq X] (Φ : X → sProp 𝕄) {j : X} {l : List X} (hj : j ∉ l) :
    bigSep (j :: l).toFinset Φ = iprop(Φ j ∗ bigSep l.toFinset Φ) := by
  rw [List.toFinset_cons]
  exact bigSep_insert fun h => hj (List.mem_toFinset.mp h)

/-- A list of operations `es j`, each turning `Φ j` into `Ψ j` and the state for the transfers still to come into that for
    one fewer: run as a whole it turns all of `Φ` into all of `Ψ`. -/
theorem wp_each {Q : α → sProp 𝕄} (I : List J → sProp 𝕄) (Φ Ψ : J → sProp 𝕄) (es : J → List (Op F)) (A : J → Prop) (B : J → J → Prop)
    (one : ∀ (j : J) (l : List J), A j → j ∉ l → (∀ i ∈ l, B j i) → ∀ k : Prog (TpuEff nD τ sig (Elt F) Λ₀ .tc) α,
      iprop(I (j :: l) ∗ Φ j) ⊢ iprop(((I l ∗ Ψ j) -∗ wp frame (wpE (defs₀ (F := F)) 𝒱₀ (c : Thread nD τ) none) Set.univ k Q)
        -∗ wp frame (wpE (defs₀ (F := F)) 𝒱₀ (c : Thread nD τ) none) Set.univ (run (es j) k) Q))
    (l : List J) (hd : l.Nodup) (hA : ∀ j ∈ l, A j) (hB : l.Pairwise B) (k : Prog (TpuEff nD τ sig (Elt F) Λ₀ .tc) α) :
    iprop(I l ∗ bigSep l.toFinset Φ) ⊢ iprop(((I [] ∗ bigSep l.toFinset Ψ) -∗ wp frame (wpE (defs₀ (F := F)) 𝒱₀ (c : Thread nD τ) none) Set.univ k Q)
      -∗ wp frame (wpE (defs₀ (F := F)) 𝒱₀ (c : Thread nD τ) none) Set.univ (run (l.flatMap es) k) Q) := by
  induction l with
  | nil =>
    have e : run (([] : List J).flatMap es) k = k := rfl
    rw [List.toFinset_nil, bigSep_empty, bigSep_empty, e]
    iintro ⟨HI, He⟩ Hk

    iapply Hk
    isplitl [HI]; · iexact HI
    iexact He
  | cons j l ih =>
    have hj : j ∉ l := (List.nodup_cons.mp hd).1
    rw [bigSep_head Φ hj, bigSep_head Ψ hj, List.flatMap_cons, run_append]
    iintro ⟨HI, Hj, Hl⟩ Hk
    iapply (one j l (hA j List.mem_cons_self) hj (List.pairwise_cons.mp hB).1 (run (l.flatMap es) k)) $$ [HI Hj]
    · isplitl [HI] <;> iassumption
    iintro ⟨HI, Hj⟩
    iapply (ih (List.nodup_cons.mp hd).2 (fun i hi => hA i (List.mem_cons_of_mem _ hi)) (List.pairwise_cons.mp hB).2) $$ [HI Hl]
    · isplitl [HI] <;> iassumption
    iintro ⟨HI, Hl⟩
    iapply Hk
    isplitl [HI]; · iexact HI
    isplitl [Hj] <;> iassumption

end Steps

end Cert.RingGather

end
-- ==== Proof.Tail.lean ====
/-
# The body after the barrier

The sixty transfers, the waits for what arrives, the wait for the own copy and the waits for what has left.
-/
module

public import proofs.«01_k».proof.Proof.Steps

@[expose] public section

noncomputable section

namespace Cert.RingGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg)

/-! ## The lists -/

/-- Every transfer is a first hop or a later one. -/
theorem firsts_laters : (Finset.univ : Finset J) = (firsts ++ laters).toFinset := by decide +kernel
/-- Every transfer comes before a later hop or is its lane's last. -/
theorem preds_lasts : (Finset.univ : Finset J) = (laters.map pred ++ lasts).toFinset := by decide +kernel
/-- The lanes hold all the transfers. -/
theorem lanes_all : (Finset.univ : Finset J) = lanes.toFinset := by decide +kernel
/-- No transfer is listed twice among the first and later hops. -/
theorem firsts_laters_nodup : (firsts ++ laters).Nodup := by decide +kernel
/-- No transfer is listed twice among those before a later hop and the last ones. -/
theorem preds_lasts_nodup : (laters.map pred ++ lasts).Nodup := by decide +kernel
/-- No transfer is listed twice among the lanes. -/
theorem lanes_nodup : lanes.Nodup := by decide +kernel
/-- The first hops are the first eight transfers, and none is a later one. -/
theorem firsts_lt : ∀ j ∈ firsts, j.val < 8 ∧ j ∉ laters := by decide +kernel
/-- A later hop comes after the first eight, and the hop before it is a lower one. -/
theorem laters_ge : ∀ j ∈ laters, 8 ≤ j.val ∧ hop (pred j) < hop j := by decide +kernel
/-- A later hop is started after the arrival it waits for can no longer depend on it. -/
theorem laters_hop : laters.Pairwise fun j i => hop (pred j) < hop i := by decide +kernel

omit [FloatOps F] in
/-- The resources of the elements of a set that two lists enumerate. -/
theorem bigSep_parts {X : Type} [DecidableEq X] (Φ : X → sProp 𝕄) {S : Finset X} {l l' : List X} (h : S = (l ++ l').toFinset) (hd : (l ++ l').Nodup) :
    bigSep S Φ = iprop(bigSep l.toFinset Φ ∗ bigSep l'.toFinset Φ) := by
  rw [h, List.toFinset_append]
  exact bigSep_union (Finset.disjoint_left.mpr fun x hx hy => (List.nodup_append.mp hd).2.2 x (List.mem_toFinset.mp hx) x (List.mem_toFinset.mp hy) rfl)

omit [FloatOps F] in
/-- The resources of a mapped list's elements. -/
theorem bigSep_mapped {X Y : Type} [DecidableEq X] [DecidableEq Y] (f : X → Y) (Φ : Y → sProp 𝕄) (l : List X) (hd : (l.map f).Nodup) :
    bigSep (l.map f).toFinset Φ = bigSep l.toFinset fun x => Φ (f x) := by
  induction l with
  | nil => rfl
  | cons x l ih =>
    have hx := (List.nodup_cons.mp hd).1
    rw [List.map_cons, bigSep_head Φ hx, ih (List.nodup_cons.mp hd).2, bigSep_head _ fun h => hx (List.mem_map_of_mem h)]

omit [FloatOps F] in
/-- All transfers are the first hops and the later ones. -/
theorem all_starts (Φ : J → sProp 𝕄) : bigSep Finset.univ Φ = iprop(bigSep firsts.toFinset Φ ∗ bigSep laters.toFinset Φ) :=
  bigSep_parts Φ firsts_laters firsts_laters_nodup
omit [FloatOps F] in
/-- All transfers are the ones before a later hop and the lanes' last ones. -/
theorem all_arrivals (Φ : J → sProp 𝕄) : bigSep Finset.univ Φ = iprop((bigSep laters.toFinset fun j => Φ (pred j)) ∗ bigSep lasts.toFinset Φ) := by
  rw [bigSep_parts Φ preds_lasts preds_lasts_nodup, bigSep_mapped pred Φ laters (List.nodup_append.mp preds_lasts_nodup).1]

/-- For no transfers nothing is owed. -/
theorem owed_nil (c : Dev nD) : owed c ([] : List J).toFinset = 0 := by unfold owed; rw [List.toFinset_nil, Finset.sum_empty]

/-! ## The phases -/

section Phases
variable (K : Dev nD × (Unit ⊕ Slot) → ℕ) (c : Dev nD)

/-- What stays the same while the transfers run, and the debt of the transfers not yet started. -/
def running (l : List J) : sProp 𝕄 := iprop(records m ρ K ∗ levAts L lv ∗ debt c (owed c l.toFinset))

/-- The first hops are started. -/
theorem wp_firsts {Q : PUnit → sProp 𝕄} (k : Prog (TpuEff nD τ sig (Elt F) Λ₀ .tc) PUnit) :
    iprop(running m ρ K c (firsts ++ laters) ∗ bigSep firsts.toFinset fun j => iprop(startRes c j ∗ own m ρ c (pc j) (qOf j)))
      ⊢ iprop(((running m ρ K c laters ∗ bigSep firsts.toFinset fun j => cred (tallyAt (sendCell c j) () N))
          -∗ wp frame (wpE (defs₀ (F := F)) 𝒱₀ (c : Thread nD τ) none) Set.univ k Q)
        -∗ wp frame (wpE (defs₀ (F := F)) 𝒱₀ (c : Thread nD τ) none) Set.univ (run (firsts.map (start₀ c)) k) Q) := by
  have e : firsts.map (start₀ (F := F) c) = firsts.flatMap fun j => [start₀ c j] := (List.flatMap_pure_eq_map _ _).symm
  rw [e]
  refine wp_each c (fun l => running m ρ K c (l ++ laters)) (fun j => iprop(startRes c j ∗ own m ρ c (pc j) (qOf j)))
    (fun j => cred (tallyAt (sendCell c j) () N)) (fun j => [start₀ c j]) (fun j => j.val < 8 ∧ j ∉ laters) (fun _ _ => True)
    (fun j l hA hj _ k => ?_) firsts (List.nodup_append.mp firsts_laters_nodup).1 firsts_lt
    (List.pairwise_of_forall fun _ _ => trivial) k
  unfold running
  rw [List.cons_append, List.toFinset_cons]
  iintro ⟨⟨#HR, #HL, HO⟩, Hs, Hown⟩ Hk
  iapply (wp_start₀ m ρ K c j hA.1 (l ++ laters).toFinset (fun h => (List.mem_append.mp (List.mem_toFinset.mp h)).elim hj hA.2) fun _ => k) $$ [HO Hs Hown]
  · isplitr; · iexact HR
    isplitl [Hown]; · iexact Hown
    isplitl [Hs] <;> iassumption
  iintro ⟨Hc, HO⟩
  iapply Hk
  isplitl [HO]
  · isplitr; · iexact HR
    isplitr; · iexact HL
    iexact HO
  iexact Hc

/-- The later hops: each waits for the rows it sends on. -/
theorem wp_laters {Q : PUnit → sProp 𝕄} (k : Prog (TpuEff nD τ sig (Elt F) Λ₀ .tc) PUnit) :
    iprop(running m ρ K c laters ∗ bigSep laters.toFinset fun j => iprop(startRes c j ∗ recvRes c (pred j)))
      ⊢ iprop(((running m ρ K c [] ∗ bigSep laters.toFinset fun j => iprop(cred (tallyAt (sendCell c j) () N) ∗ semVal (recvCell c (pred j)) 0))
          -∗ wp frame (wpE (defs₀ (F := F)) 𝒱₀ (c : Thread nD τ) none) Set.univ k Q)
        -∗ wp frame (wpE (defs₀ (F := F)) 𝒱₀ (c : Thread nD τ) none) Set.univ (run (laters.flatMap (step c)) k) Q) := by
  refine wp_each c (running m ρ K c) (fun j => iprop(startRes c j ∗ recvRes c (pred j)))
    (fun j => iprop(cred (tallyAt (sendCell c j) () N) ∗ semVal (recvCell c (pred j)) 0)) (step c) (fun j => 8 ≤ j.val ∧ hop (pred j) < hop j)
    (fun j i => hop (pred j) < hop i)
    (fun j l hA hj hB k => ?_) laters (List.nodup_append.mp firsts_laters_nodup).2.1 laters_ge laters_hop k
  unfold running
  iintro ⟨⟨#HR, #HL, HO⟩, Hs, Hr⟩ Hk
  iapply (wp_recv m ρ K c (pred j) (owed c (j :: l).toFinset) fun _ => run [start₁ c j] k) $$ [HO Hr]
  · isplitr; · iexact HR
    isplitl [Hr]; · iexact Hr
    isplitl [HO]; · iexact HO
    iapply (mayWait_owed c (.dma (rS (pred j))) (j :: l).toFinset (fun i hi => by
      rw [show lv _ () = 2 + hop (pred j) from lv_recv c (pred j)]
      rcases List.mem_cons.mp (List.mem_toFinset.mp hi) with rfl | hi
      · have := hA.2; omega
      · have := hB i hi; omega))
    iexact HL
  iintro ⟨HO, Hz, Hp⟩
  rw [List.toFinset_cons]
  iapply (wp_start₁ m ρ K c j hA.1 l.toFinset (fun h => hj (List.mem_toFinset.mp h)) fun _ => k) $$ [HO Hs Hp]
  · isplitr; · iexact HR
    isplitl [Hp]; · iexact Hp
    isplitl [Hs] <;> iassumption
  iintro ⟨Hc, HO⟩
  iapply Hk
  isplitl [HO]
  · isplitr; · iexact HR
    isplitr; · iexact HL
    iexact HO
  isplitl [Hc] <;> iassumption

/-- The last arrivals of the lanes. -/
theorem wp_lasts {Q : PUnit → sProp 𝕄} (k : Prog (TpuEff nD τ sig (Elt F) Λ₀ .tc) PUnit) :
    iprop((records m ρ K ∗ debt c 0) ∗ bigSep lasts.toFinset (recvRes c))
      ⊢ iprop((((records m ρ K ∗ debt c 0) ∗ bigSep lasts.toFinset fun j => iprop(semVal (recvCell c j) 0 ∗ recvPay m ρ c j))
          -∗ wp frame (wpE (defs₀ (F := F)) 𝒱₀ (c : Thread nD τ) none) Set.univ k Q)
        -∗ wp frame (wpE (defs₀ (F := F)) 𝒱₀ (c : Thread nD τ) none) Set.univ (run (lasts.map (recv c)) k) Q) := by
  have e : lasts.map (recv (F := F) c) = lasts.flatMap fun j => [recv c j] := (List.flatMap_pure_eq_map _ _).symm
  rw [e]
  refine wp_each c (fun _ => iprop(records m ρ K ∗ debt c 0)) (recvRes c)
    (fun j => iprop(semVal (recvCell c j) 0 ∗ recvPay m ρ c j)) (fun j => [recv c j]) (fun _ => True) (fun _ _ => True)
    (fun j l _ _ _ k => ?_) lasts (List.nodup_append.mp preds_lasts_nodup).2.1 (fun _ _ => trivial)
    (List.pairwise_of_forall fun _ _ => trivial) k
  iintro ⟨⟨#HR, HO⟩, Hr⟩ Hk
  iapply (wp_recv m ρ K c j 0 fun _ => k) $$ [HO Hr]
  · isplitr; · iexact HR
    isplitl [Hr]; · iexact Hr
    isplitl [HO]; · iexact HO
    rw [MayWait_zero]; iempintro
  iintro ⟨HO, Hz, Hp⟩
  iapply Hk
  isplitl [HO]
  · isplitr; · iexact HR
    iexact HO
  isplitl [Hz] <;> iassumption

/-- The own copy is waited for: its rows, and the share of the block it read. -/
theorem wp_copied {Q : PUnit → sProp 𝕄} (k : Prog (TpuEff nD τ sig (Elt F) Λ₀ .tc) PUnit) :
    iprop(records m ρ K ∗ debt c 0 ∗ cred (tallyAt (copyCell c) () NC) ∗ atPos ER (copyCell c) 0 ∅ 0)
      ⊢ iprop(((debt c 0 ∗ semVal (copyCell c) 0 ∗ copyPay m ρ c)
          -∗ wp frame (wpE (defs₀ (F := F)) 𝒱₀ (c : Thread nD τ) none) Set.univ k Q)
        -∗ wp frame (wpE (defs₀ (F := F)) 𝒱₀ (c : Thread nD τ) none) Set.univ (run [copied c] k) Q) := by
  have h := wp_wait_dma m ρ K c (Q := Q) (.inl ()) cS rfl (copied c) NC (fun P => by
    unfold copied; rw [wpE_waitDma2_eq 𝒱₀ (c : Thread nD τ) none Set.univ, blkV_credit]) (amount_copy m ρ c false) 0 fun _ => k
  rw [payload_copy] at h
  iintro ⟨#HR, HO, Hc, Hat⟩
  iapply h
  isplitr; · iexact HR
  isplitl [Hc]; · iexact Hc
  isplitl [HO]; · iexact HO
  isplitr; · rw [MayWait_zero]; iempintro
  iexact Hat

/-- The waits for everything that was sent. -/
theorem wp_lanes {Q : PUnit → sProp 𝕄} (k : Prog (TpuEff nD τ sig (Elt F) Λ₀ .tc) PUnit) :
    iprop((records m ρ K ∗ debt c 0) ∗ bigSep Finset.univ (sentRes c))
      ⊢ iprop((((records m ρ K ∗ debt c 0) ∗ bigSep Finset.univ fun j => iprop(semVal (sendCell c j) 0 ∗ sendPay m ρ c j))
          -∗ wp frame (wpE (defs₀ (F := F)) 𝒱₀ (c : Thread nD τ) none) Set.univ k Q)
        -∗ wp frame (wpE (defs₀ (F := F)) 𝒱₀ (c : Thread nD τ) none) Set.univ (run (lanes.map (sent c)) k) Q) := by
  have e : lanes.map (sent (F := F) c) = lanes.flatMap fun j => [sent c j] := (List.flatMap_pure_eq_map _ _).symm
  rw [e, lanes_all]
  refine wp_each c (fun _ => iprop(records m ρ K ∗ debt c 0)) (sentRes c)
    (fun j => iprop(semVal (sendCell c j) 0 ∗ sendPay m ρ c j)) (fun j => [sent c j]) (fun _ => True) (fun _ _ => True)
    (fun j l _ _ _ k => ?_) lanes lanes_nodup (fun _ _ => trivial)
    (List.pairwise_of_forall fun _ _ => trivial) k
  iintro ⟨⟨#HR, HO⟩, Hr⟩ Hk
  iapply (wp_sent m ρ K c j fun _ => k) $$ [HO Hr]
  · isplitr; · iexact HR
    isplitl [Hr] <;> iassumption
  iintro ⟨HO, Hz, Hp⟩
  iapply Hk
  isplitl [HO]
  · isplitr; · iexact HR
    iexact HO
  isplitl [Hz] <;> iassumption

/-- The pieces of its own block that a device's first hops read. -/
def ownParts : sProp 𝕄 := bigSep firsts.toFinset fun j => own m ρ c (pc j) (qOf j)

/-- What the body holds when it has passed the barrier. -/
def tailPre : sProp 𝕄 :=
  iprop(records m ρ K ∗ levAts L lv ∗ debt c (owed c Finset.univ) ∗ (bigSep Finset.univ fun j => startRes c j) ∗ ownParts m ρ c
    ∗ (bigSep Finset.univ fun j => recvRes c j) ∗ (bigSep Finset.univ fun j => atPos ER (sendCell c j) 0 ∅ 0)
    ∗ cred (tallyAt (copyCell c) () NC) ∗ atPos ER (copyCell c) 0 ∅ 0)

/-- What the body holds when it has finished: no debt, every counter at zero, its own block, and all the rows of the result. -/
def tailPost : sProp 𝕄 :=
  iprop(debt c 0 ∗ (bigSep Finset.univ fun j => semVal (recvCell c j) 0) ∗ (bigSep Finset.univ fun j => semVal (sendCell c j) 0)
    ∗ semVal (copyCell c) 0 ∗ copyPay m ρ c ∗ ownParts m ρ c ∗ bigSep Finset.univ fun j => recvPay m ρ c j)

omit [FloatOps F] in
/-- What has left and come back, with the lanes' last arrivals, is the pieces of the own block and all that arrived. -/
theorem sent_back : iprop((bigSep Finset.univ fun j => sendPay m ρ c j) ∗ bigSep lasts.toFinset fun j => recvPay m ρ c j)
    ⊢ (iprop(ownParts m ρ c ∗ bigSep Finset.univ fun j => recvPay m ρ c j) : sProp 𝕄) := by
  rw [all_starts, all_arrivals (fun j => recvPay m ρ c j),
    bigSep_congr fun j hj => sendPay_first m ρ c j (firsts_lt j (List.mem_toFinset.mp hj)).1,
    bigSep_congr fun j hj => sendPay_later m ρ c j (laters_ge j (List.mem_toFinset.mp hj)).1]
  unfold ownParts
  iintro ⟨⟨H1, H2⟩, H3⟩
  isplitl [H1]; · iexact H1
  isplitl [H2] <;> iassumption

/-- The body after the barrier. -/
theorem wp_tail {Q : PUnit → sProp 𝕄} :
    tailPre m ρ K c ⊢ iprop((tailPost m ρ c -∗ Q ⟨⟩) -∗ wp frame (wpE (defs₀ (F := F)) 𝒱₀ (c : Thread nD τ) none) Set.univ (tail c) Q) := by
  unfold tailPre tail
  rw [all_starts (fun j => startRes c j), all_arrivals (fun j => recvRes c j)]
  iintro ⟨#HR, #HL, HO, ⟨Hs1, Hs2⟩, Hown, ⟨Hr1, Hr2⟩, Hat, Hcc, Hca⟩ Hk
  iapply (wp_firsts m ρ K c) $$ [HO Hs1 Hown]
  · rw [bigSep_sep']
    unfold running
    isplitl [HO]
    · isplitr; · iexact HR
      isplitr; · iexact HL
      rw [← firsts_laters]; iexact HO
    isplitl [Hs1]; · iexact Hs1
    unfold ownParts; iexact Hown
  iintro ⟨Hrun, Hc1⟩
  iapply (wp_laters m ρ K c) $$ [Hrun Hs2 Hr1]
  · rw [bigSep_sep']
    isplitl [Hrun]; · iexact Hrun
    isplitl [Hs2] <;> iassumption
  iintro ⟨Hrun, H⟩
  ihave H := (Entails.of_eq (bigSep_sep' laters.toFinset (fun j => (cred (tallyAt (sendCell c j) () N) : sProp 𝕄)) fun j => semVal (recvCell c (pred j)) 0)) $$ H
  icases H with ⟨Hc2, Hz1⟩
  unfold running
  rw [owed_nil]
  icases Hrun with ⟨-, -, HO⟩
  iapply (wp_lasts m ρ K c) $$ [HO Hr2]
  · isplitl [HO]
    · isplitr; · iexact HR
      iexact HO
    iexact Hr2
  iintro ⟨⟨-, HO⟩, H⟩
  ihave H := (Entails.of_eq (bigSep_sep' lasts.toFinset (fun j => (semVal (recvCell c j) 0 : sProp 𝕄)) fun j => recvPay m ρ c j)) $$ H
  icases H with ⟨Hz2, Hp⟩
  iapply (wp_copied m ρ K c) $$ [HO Hcc Hca]
  · isplitr; · iexact HR
    isplitl [HO]; · iexact HO
    isplitl [Hcc] <;> iassumption
  iintro ⟨HO, Hz3, Hcp⟩
  iapply (wp_lanes m ρ K c) $$ [HO Hc1 Hc2 Hat]
  · isplitl [HO]
    · isplitr; · iexact HR
      iexact HO
    unfold sentRes
    rw [bigSep_sep', all_starts (fun j => (cred (tallyAt (sendCell c j) () N) : sProp 𝕄))]
    isplitl [Hc1 Hc2]
    · isplitl [Hc1] <;> iassumption
    iexact Hat
  iintro ⟨⟨-, HO⟩, H⟩
  ihave H := (Entails.of_eq (bigSep_sep' Finset.univ (fun j => (semVal (sendCell c j) 0 : sProp 𝕄)) fun j => sendPay m ρ c j)) $$ H
  icases H with ⟨Hz4, Hsp⟩
  rw [wp_ret]; imodintro
  iapply Hk
  unfold tailPost
  ihave H := (sent_back m ρ c) $$ [Hsp Hp]
  · isplitl [Hsp] <;> iassumption
  icases H with ⟨Hown, Hall⟩
  isplitl [HO]; · iexact HO
  isplitl [Hz1 Hz2]
  · rw [all_arrivals (fun j => (semVal (recvCell c j) 0 : sProp 𝕄))]
    isplitl [Hz1] <;> iassumption
  isplitl [Hz4]; · iexact Hz4
  isplitl [Hz3]; · iexact Hz3
  isplitl [Hcp]; · iexact Hcp
  isplitl [Hown] <;> iassumption

end Phases

end Cert.RingGather

end
-- ==== Proof.Body.lean ====
/-
# The body

From what a device is given at launch to what it leaves behind: the two signals, the own block's copy, the barrier, and the
sixty transfers.
-/
module

public import proofs.«01_k».proof.Proof.Tail
public import Idealize.ShloMosaic.Lib.Pipeline.Value

@[expose] public section

noncomputable section

namespace Cert.RingGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-! ## The own block's shares -/

omit [FloatOps F] in
/-- One direction's four first hops read the four pieces of a share of the block. -/
theorem own_side (c : Dev nD) (q : PosShare TreeShare) (l : List J) (hd : (l.map pc).Nodup) (hu : (Finset.univ : Finset (Fin 4)) = (l.map pc).toFinset)
    (hq : ∀ j ∈ l, qOf j = q) : ownAll (F := F) m ρ c q = bigSep l.toFinset fun j => own m ρ c (pc j) (qOf j) := by
  rw [own_pieces, hu, bigSep_mapped pc _ l hd]
  exact bigSep_congr fun j hj => by rw [hq j (List.mem_toFinset.mp hj)]

omit [FloatOps F] in
/-- The whole block is the own copy's share and the pieces the first hops read. -/
theorem own_shares (c : Dev nD) : ownAll (F := F) m ρ c fullShare = iprop(ownAll m ρ c fullShare.left ∗ ownParts m ρ c) := by
  have share : ∀ q : PosShare TreeShare, ownAll (F := F) m ρ c q = iprop(ownAll m ρ c q.left ∗ ownAll m ρ c q.right) := fun q => by
    unfold ownAll
    have h := pointsTo_share (Ix := Unit) (Name := ℕ) (U := UU) (Lvl := ℕ) (ℓ := (c : Thread nD τ).loc cc0_scratch0) (I := Finset.univ)
      (f := (xstg m ρ c : (cc0_stg0_0 : Ref sig .tc).ty.Contents (Elt F))) (PosShare.mem_left_op_right q)
    exact BI.equiv_iff.mp ⟨h.1, h.2⟩
  have parts : ownParts (F := F) m ρ c = iprop(ownAll m ρ c fullShare.right.left ∗ ownAll m ρ c fullShare.right.right) := by
    unfold ownParts
    rw [bigSep_parts (fun j => own m ρ c (pc j) (qOf j)) (S := firsts.toFinset) (l := [0, 2, 4, 6]) (l' := [1, 3, 5, 7]) (by decide) (by decide),
      own_side m ρ c fullShare.right.left [0, 2, 4, 6] (by decide) (by decide) (fun j hj => if_pos (by revert j; decide)),
      own_side m ρ c fullShare.right.right [1, 3, 5, 7] (by decide) (by decide) (fun j hj => if_neg (by revert j; decide))]
  rw [share fullShare, parts, share fullShare.right]

omit [FloatOps F] in
/-- A device's block in scratch, at a share, is the memory the own copy reads. -/
theorem ownAll_view (c : Dev nD) (q : PosShare TreeShare) : ownAll (F := F) m ρ c q
    = ((wM : Memref sig .tc .vmem S2048x512 .bf16).view.loc (c : Thread nD τ) ↦[(wM : Memref sig .tc .vmem S2048x512 .bf16).view.set]{q}
        (xstg m ρ c : (cc0_stg0_0 : Ref sig .tc).ty.Contents (Elt F))) := by
  rw [View.set_whole]; rfl

omit [FloatOps F] in
/-- A device's own rows of the result are the memory the own copy writes. -/
theorem blk_view (c : Dev nD) (f : (main_v1 : Ref sig .tc).ty.Contents (Elt F)) : pts (F := F) c (band (2048 * c.val) 2048) f
    = ((blkV c).view.loc (c : Thread nD τ) ↦[(blkV c).view.set]{fullShare} f) := by
  rw [blkV_set]; rfl

omit [FloatOps F] in
/-- A device's signals hand its neighbours the rows, in its own result, that their transfers write. -/
theorem hand_over (c : Dev nD) (f : (main_v1 : Ref sig .tc).ty.Contents (Elt F)) :
    (bigSep Finset.univ fun j : J => pts c (band (arr c j) 512) f) ⊢ (iprop(barPay (left c) true ∗ barPay (right c) false) : sProp 𝕄) := by
  rw [bigSep_filter_split Finset.univ (fun j : J => isR j = true)]
  simp only [Bool.not_eq_true]
  unfold barPay
  have give : ∀ (n : Dev nD) (j : J), dst n j = c → rowOf n j = arr c j →
      (pts c (band (arr c j) 512) f ⊢ (iprop(∃ f, pts (dst n j) (band (rowOf n j) 512) f) : sProp 𝕄)) := fun n j hd hr => by
    rw [hd, hr]; iintro H; iexists f; iexact H
  refine BIClass.sep_mono (bigSep_mono fun j hj => give _ _ ?_ ?_) (bigSep_mono fun j hj => give _ _ ?_ ?_)
  all_goals have h := (Finset.mem_filter.mp hj).2
  · unfold dst; rw [if_pos h]; exact right_left c
  · unfold arr src; rw [if_pos h]
  · unfold dst; rw [h]; exact left_right c
  · unfold arr src; rw [h]; rfl

/-! ## What a device starts from and leaves behind -/

/-- The rights to pay: both neighbours' barriers, the own copy's counter, every transfer's two counters. -/
def payToks (c : Dev nD) : sProp 𝕄 :=
  iprop(dutyTok ER (barCell (left c)) 0 true ∗ dutyTok ER (barCell (right c)) 0 false ∗ dutyTok ER (copyCell c) 0 false
    ∗ (bigSep Finset.univ fun j => dutyTok ER (sendCell c j) 0 false) ∗ bigSep Finset.univ fun j => dutyTok ER (recvCell (dst c j) j) 0 false)
/-- With them, the device's place in each of its counters' rounds. -/
def linear (c : Dev nD) : sProp 𝕄 :=
  iprop((atPos ER (barCell c) 0 ∅ 0 ∗ atPos ER (copyCell c) 0 ∅ 0 ∗ (bigSep Finset.univ fun j => atPos ER (sendCell c j) 0 ∅ 0)
    ∗ bigSep Finset.univ fun j => atPos ER (recvCell c j) 0 ∅ 0) ∗ payToks c)
/-- The counters' records, under some names, and that. -/
def ghost (c : Dev nD) : sProp 𝕄 := iprop(∃ K, records m ρ K ∗ linear c)
/-- What will be paid to the device. -/
def credits (c : Dev nD) : sProp 𝕄 := iprop(cred (tallyAt (barCell c) () 2) ∗ bigSep Finset.univ fun j => cred (tallyAt (recvCell c j) () N))

/-- What the body starts from, besides the staged block and the scratch. -/
def start (c : Dev nD) : sProp 𝕄 := iprop(ghost m ρ c ∗ credits c ∗ levAts L lv ∗ ∃ f, pts c Finset.univ f)
/-- What the body starts from, with the scratch and without the staged block. -/
def Φ₀ (c : Dev nD) : sProp 𝕄 := iprop(start m ρ c ∗ ∃ f : Buf (Elt F) ((c : Thread nD τ).loc cc0_scratch0), ((c : Thread nD τ).loc cc0_scratch0) ↦{fullShare} f)
/-- What the body leaves: the scratch, the result holding all the blocks, every counter at zero. -/
def Φ₁ (c : Dev nD) : sProp 𝕄 :=
  iprop((∃ f : Buf (Elt F) ((c : Thread nD τ).loc cc0_scratch0), ((c : Thread nD τ).loc cc0_scratch0) ↦{fullShare} f)
    ∗ pts c Finset.univ (gath m ρ) ∗ semVal (barCell c) 0 ∗ semVal (copyCell c) 0
    ∗ (bigSep Finset.univ fun j => semVal (sendCell c j) 0) ∗ bigSep Finset.univ fun j => semVal (recvCell c j) 0)

/-- The staged block's buffer, holding it. -/
def staged (c : Dev nD) : sProp 𝕄 := ((c : Thread nD τ).loc cc0_stg0_0) ↦{fullShare} (xstg m ρ c : (cc0_stg0_0 : Ref sig .tc).ty.Contents (Elt F))

/-- A load or store of a whole block starts at its corner. -/
theorem corner : (![0, 0] : Fin 2 → Nat) = fun _ => 0 := funext (Fin.forall_fin_two.mpr ⟨rfl, rfl⟩)
/-- Storing the loaded block leaves the scratch buffer holding it. -/
theorem stored (w : (cc0_scratch0 : Ref sig .tc).ty.Contents (Elt F)) (v : Vec F S2048x512 .bf16) :
    View.write (Elt F) ((wM : Memref sig .tc .vmem S2048x512 .bf16).access r0) w (k0_pay1 v) Finset.univ = v := by
  unfold k0_pay1
  simp only [shapeCast_self]
  exact Memref.write_access_unit_zero_univ (Elt F) cc0_scratch0 corner _ w v

section Body
variable (K : Dev nD × (Unit ⊕ Slot) → ℕ) (c : Dev nD)

omit [FloatOps F] in
/-- What the own copy's counter pays out, from what its landing leaves. -/
theorem copy_pays (f : (main_v1 : Ref sig .tc).ty.Contents (Elt F)) :
    iprop(((blkV c).view.loc (c : Thread nD τ) ↦[(blkV c).view.set]{fullShare}
        (blkV c).view.write (Elt F) f ((wM : Memref sig .tc .vmem S2048x512 .bf16).view.read (Elt F) (xstg m ρ c)) Finset.univ)
      ∗ ((wM : Memref sig .tc .vmem S2048x512 .bf16).view.loc (c : Thread nD τ) ↦[(wM : Memref sig .tc .vmem S2048x512 .bf16).view.set]{fullShare.left}
        (xstg m ρ c : (cc0_stg0_0 : Ref sig .tc).ty.Contents (Elt F)))) ⊢ ((ringRd m ρ).payload (copyCell c) 0 false : sProp 𝕄) := by
  rw [payload_copy]; unfold copyPay; rw [ownAll_view]; exact BIClass.sep_mono (copy_lands m ρ c f) (Entails.refl _)

/-- The copy of the own block into the result is started. -/
theorem wp_copy_own {Q : PUnit → sProp 𝕄} (f : (main_v1 : Ref sig .tc).ty.Contents (Elt F)) (k : PUnit → Prog (TpuEff nD τ sig (Elt F) Λ₀ .tc) PUnit) :
    iprop(records m ρ K ∗ ownAll m ρ c fullShare.left ∗ pts c (band (2048 * c.val) 2048) f ∗ dutyTok ER (copyCell c) 0 false)
      ⊢ iprop((cred (tallyAt (copyCell c) () NC) -∗ wp frame (wpE (defs₀ (F := F)) 𝒱₀ (c : Thread nD τ) none) Set.univ (k ⟨⟩) Q)
        -∗ wp frame (wpE (defs₀ (F := F)) 𝒱₀ (c : Thread nD τ) none) Set.univ (.op (copy c) k) Q) := by
  rw [ownAll_view, blk_view]
  unfold copy
  iintro ⟨#HR, Hw, Ho, Ht⟩ Hk
  iapply (Rounds.wp_copy_pointsTo 𝒱₀ ER (ringRd m ρ) (c : Thread nD τ) none (κ := K (c, .inr (.inl ()))) (r := 0) (d := false) (fd := f)
    (fs := (xstg m ρ c : (cc0_stg0_0 : Ref sig .tc).ty.Contents (Elt F))) (q := fullShare.left)
    (by rw [duties_dma]; exact Finset.mem_singleton_self _) () NC (by show (blkV c).view.dmaCredit = NC; exact blkV_credit c)
    (amount_copy m ρ c false) (by exact copy_pays m ρ c f)) $$ [Hw Ho Ht]
  · isplitr; · iapply (inv_at m ρ K (c, .inr (.inl ()))); iexact HR
    isplitl [Hw]; · iexact Hw
    isplitl [Ho]; · iexact Ho
    isplitl [Ht]; · iexact Ht
    iapply (reached_at m ρ K (c, .inr (.inl ()))); iexact HR
  iintro Hc
  iapply Hk; iexact Hc

/-- The wait on the barrier: both neighbours have handed over the rows this device's transfers write. -/
theorem wp_barrier {Q : PUnit → sProp 𝕄} (k : PUnit → Prog (TpuEff nD τ sig (Elt F) Λ₀ .tc) PUnit) :
    iprop(records m ρ K ∗ levAts L lv ∗ cred (tallyAt (barCell c) () 2) ∗ debt c (owed c Finset.univ) ∗ atPos ER (barCell c) 0 ∅ 0)
      ⊢ iprop(((debt c (owed c Finset.univ) ∗ semVal (barCell c) 0 ∗ bigSep Finset.univ fun j : J => iprop(∃ f, pts (F := F) (dst c j) (band (rowOf c j) 512) f))
            -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS (2#32 : BitVec 32).toInt) k) Q) := by
  unfold debt
  iintro ⟨#HR, #HL, Hc, ⟨%W, HO⟩, Hat⟩ Hk
  iapply (Rounds.wp_wait_rest_token 𝒱₀ ER (ringRd m ρ) (c : Thread nD τ) none (κ := K (c, .inl ()))
      (wpE_semWait_eq 𝒱₀ (c : Thread nD τ) none Set.univ) (Set.mem_univ _) () (O := owed c Finset.univ) (W := W) (R := 0) (m := 0) (T := ∅)
      (by rw [expect_bar]; decide)) $$ [Hc HO Hat]
  · isplitr; · iapply (inv_at m ρ K (c, .inl ())); iexact HR
    isplitl [Hc]; · iexact Hc
    isplitl [HO]; · iexact HO
    isplitr
    · iapply (mayWait_owed c (.reg barS) Finset.univ fun j _ => by rw [lv_bar]; omega); iexact HL
    iexact Hat
  iintro ⟨HO, Hat, -, Hpay⟩
  ihave Hp := (Entails.of_eq (rest_bar m ρ c)) $$ Hpay
  imod (Rounds.cell_close ER (ringRd m ρ) (Set.mem_univ (K (c, .inl ()))) (fun h => h) (R := 0 + 1) (duties_later m ρ (barCell c))) $$ [Hat] with Hz
  · isplitr; · iapply (inv_at m ρ K (c, .inl ())); iexact HR
    iexact Hat
  iapply Hk
  isplitl [HO]; · iexists _; iexact HO
  isplitl [Hz] <;> iassumption

/-- A signal to a neighbour's barrier, with the rows it hands over. -/
theorem wp_hand {Q : PUnit → sProp 𝕄} (n : Dev nD) (d : Bool) (O : CellTallies nD τ sig Unit) (k : PUnit → Prog (TpuEff nD τ sig (Elt F) Λ₀ .tc) PUnit) :
    iprop(records m ρ K ∗ debt c (O + tallyAt (barCell n) () 1) ∗ dutyTok ER (barCell n) 0 d ∗ barPay n d)
      ⊢ iprop((debt c O -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n : Thread nD τ) barS (1#32 : BitVec 32).toInt) k) Q) := by
  unfold debt
  iintro ⟨#HR, ⟨%W, HO⟩, Ht, Hp⟩ Hk
  iapply (Rounds.wp_signal 𝒱₀ ER (ringRd m ρ) (c : Thread nD τ) none (dst := (n : Thread nD τ)) (κ := K (n, .inl ()))
      (d := d) (by rw [duties_bar]; exact Finset.mem_univ _) ((amount_bar m ρ n d).trans (by decide)) () O rfl) $$ [HO Ht Hp]
  · isplitr; · iapply (inv_at m ρ K (n, .inl ())); iexact HR
    isplitl [HO]; · iexact HO
    isplitl [Ht]; · iexact Ht
    isplitl [Hp]; · iapply (Entails.of_eq (payload_bar m ρ n d).symm); iexact Hp
    iapply (reached_at m ρ K (n, .inl ())); iexact HR
  iintro HO
  iapply Hk
  iexists W; iexact HO

/-- What the body starts from, opened up. -/
def progPre : sProp 𝕄 :=
  iprop(records m ρ K ∗ linear c ∗ credits c ∗ levAts L lv ∗ (∃ f, pts c Finset.univ f)
    ∗ (∃ f : Buf (Elt F) ((c : Thread nD τ).loc cc0_scratch0), ((c : Thread nD τ).loc cc0_scratch0) ↦{fullShare} f)
    ∗ debt c (O₀ c) ∗ staged m ρ c)
/-- What the body ends with. -/
def progPost : sProp 𝕄 := iprop(Φ₁ m ρ c ∗ debt c 0 ∗ staged m ρ c)

/-- The body, an operation at a time. -/
theorem wp_prog {Q : PUnit → sProp 𝕄} :
    progPre m ρ K c ⊢ iprop((progPost m ρ c -∗ Q ⟨⟩) -∗ wp frame (wpE (defs₀ (F := F)) 𝒱₀ (c : Thread nD τ) none) Set.univ (prog c) Q) := by
  unfold prog
  simp only [semSignalWord, semWaitWord, Prog.lift, Prog.bind_op, Prog.bind_ret]
  simp only [dev1_eq c, dev2_eq c]
  unfold progPre linear payToks credits
  iintro ⟨#HR, ⟨⟨HaB, HaC, HaS, HaV⟩, HtL, HtR, HtC, HtS, HtV⟩, ⟨HcB, HcV⟩, #HL, ⟨%f, Ho⟩, ⟨%w, Hw⟩, HO, Hx⟩ Hk
  ihave Ho' := (Entails.of_eq (out_pieces c f)) $$ Ho
  icases Ho' with ⟨Hown, Hrest⟩
  ihave Hh := (hand_over c f) $$ Hrest
  icases Hh with ⟨HhL, HhR⟩
  unfold O₀
  iapply (wp_hand m ρ K c (left c) true (O₁ c) _) $$ [HO HtL HhL]
  · isplitr; · iexact HR
    isplitl [HO]; · iexact HO
    isplitl [HtL] <;> iassumption
  iintro HO
  unfold O₁
  iapply (wp_hand m ρ K c (right c) false (owed c Finset.univ) _) $$ [HO HtR HhR]
  · isplitr; · iexact HR
    isplitl [HO]; · iexact HO
    isplitl [HtR] <;> iassumption
  iintro HO
  unfold staged
  iapply (wp_load 𝒱₀ (c : Thread nD τ) none Set.univ (m := xM) (Finset.subset_univ _)) $$ Hx; iintro Hx
  rw [show View.readAt (Elt F) xM.view r0.toLoadRect (xstg m ρ c) = xstg m ρ c from Memref.readAt_unit_zero (Elt F) cc0_stg0_0 corner _ _]
  iapply (wp_load 𝒱₀ (c : Thread nD τ) none Set.univ (m := wM) (Finset.subset_univ _)) $$ Hw; iintro Hw
  iapply (wp_store 𝒱₀ (c : Thread nD τ) none Set.univ (m := wM) (r := r0) (Mk := Finset.univ) (Finset.subset_univ _)) $$ Hw; iintro Hw
  rw [stored]
  ihave Hw' := (Entails.of_eq (show ((((c : Thread nD τ).loc cc0_scratch0) ↦{fullShare} (xstg m ρ c : (cc0_stg0_0 : Ref sig .tc).ty.Contents (Elt F))) : sProp 𝕄) = _ from own_shares m ρ c)) $$ Hw
  icases Hw' with ⟨HwC, HwP⟩
  iapply (wp_copy_own m ρ K c f _) $$ [HwC Hown HtC]
  · isplitr; · iexact HR
    isplitl [HwC]; · iexact HwC
    isplitl [Hown] <;> iassumption
  iintro HcC
  iapply (wp_barrier m ρ K c _) $$ [HcB HO HaB]
  · isplitr; · iexact HR
    isplitr; · iexact HL
    isplitl [HcB]; · iexact HcB
    isplitl [HO] <;> iassumption
  iintro ⟨HO, HzB, Hout⟩
  iapply (wp_tail m ρ K c) $$ [HO HtS HtV Hout HwP HcV HaV HaS HcC HaC]
  · unfold tailPre startRes recvRes
    rw [bigSep_sep', bigSep_sep', bigSep_sep']
    isplitr; · iexact HR
    isplitr; · iexact HL
    isplitl [HO]; · iexact HO
    isplitl [HtS HtV Hout]
    · isplitl [HtS]; · iexact HtS
      isplitl [HtV] <;> iassumption
    isplitl [HwP]; · iexact HwP
    isplitl [HcV HaV]
    · isplitl [HcV] <;> iassumption
    isplitl [HaS]; · iexact HaS
    isplitl [HcC] <;> iassumption
  unfold tailPost copyPay
  iintro ⟨HO, HzV, HzS, HzC, ⟨Hown, HwC⟩, HwP, Hall⟩
  iapply Hk
  unfold progPost Φ₁ staged
  isplitl [HwC HwP Hown Hall HzB HzC HzS HzV]
  · isplitl [HwC HwP]
    · iexists (xstg m ρ c : (cc0_stg0_0 : Ref sig .tc).ty.Contents (Elt F))
      iapply (Entails.of_eq (show _ = ((((c : Thread nD τ).loc cc0_scratch0) ↦{fullShare} (xstg m ρ c : (cc0_stg0_0 : Ref sig .tc).ty.Contents (Elt F))) : sProp 𝕄) from (own_shares m ρ c).symm))
      isplitl [HwC] <;> iassumption
    isplitl [Hown Hall]
    · rw [out_pieces]
      isplitl [Hown]; · iexact Hown
      iexact Hall
    isplitl [HzB]; · iexact HzB
    isplitl [HzC]; · iexact HzC
    isplitl [HzS] <;> iassumption
  isplitl [HO]; · iexact HO
  iexact Hx

end Body

/-! ## The pipeline's data -/

/-- The pipeline's data: the argument is held whole and handed back as it was, and the debt is gone after the one point. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-- The pipeline has a single point. -/
theorem only_point (t : Fin cfg0.N) : t = (0 : Fin 1) := Subsingleton.elim (α := Fin 1) t 0

set_option maxRecDepth 20000 in
/-- The body meets what the pipeline asks of it. -/
theorem body_obligation (c : Dev nD) : BodyObligation (dats (F := F) m ρ 0 c) (defs₀ (F := F)) 𝒱₀ () Set.univ := fun t => by
  obtain rfl := only_point t
  rw [bigSep_W0, bigSep_W0]
  simp only [owns_whole_eq]
  show _ ⊢ wp _ _ _ (cc0_body (F := F) xM (Memref.isWhole_whole _) oM (Memref.isWhole_whole _) wM (Memref.isWhole_whole _) cc0_scratch1 cc0_scratch2
      cc0_scratch3 cc0_scratch4 cc0_scratch5 cc0_scratch6 cc0_scratch7 cc0_scratch8 cc0_scratch9 cc0_scratch10 cc0_scratch11 cc0_scratch12 cc0_scratch13
      cc0_scratch14 cc0_scratch15 cc0_scratch16 cc0_scratch17) _
  rw [body_eq]
  simp only [Prog.lift, Prog.bind_op, Prog.bind_ret, wp_deviceId]
  show iprop(Φ₀ m ρ c ∗ (∃ W : Waits sig Unit, _ ∗ owes (c : Thread nD τ) (O₀ c) W) ∗ _) ⊢
    wp _ _ _ _ fun _ => iprop(Φ₁ m ρ c ∗ (∃ W : Waits sig Unit, _ ∗ owes (c : Thread nD τ) 0 W) ∗ _)
  unfold Φ₀ start ghost
  iintro ⟨⟨⟨⟨%K, #HR, Hlin⟩, Hcr, #HL, Ho⟩, Hw⟩, ⟨%W, -, HO⟩, ⟨%d, %g, %hg, Hx⟩⟩
  obtain rfl : g = xstg m ρ c := hg
  iapply (wp_prog m ρ K c) $$ [Hlin Hcr Ho Hw HO Hx]
  · unfold progPre staged debt
    isplitr; · iexact HR
    isplitl [Hlin]; · iexact Hlin
    isplitl [Hcr]; · iexact Hcr
    isplitr; · iexact HL
    isplitl [Ho]; · iexact Ho
    isplitl [Hw]; · iexact Hw
    isplitl [HO]; · iexists W; iexact HO
    iexact Hx
  unfold progPost debt staged
  iintro ⟨HΦ, ⟨%W', HO⟩, Hx⟩
  isplitl [HΦ]; · iexact HΦ
  isplitl [HO]
  · iexists W'
    isplitr; · ipureintro; exact fun _ _ => Or.inl trivial
    iexact HO
  iexists _; isplitr
  · ipureintro; rfl
  iexact Hx

end Cert.RingGather

end
-- ==== Proof.Launch.lean ====
/-
# The launch

From sixteen devices with every counter at zero to the run's end. The launch opens each counter's invariant, deals each device
the rights to pay its neighbours, and gives each device credit for what the others owe it; the run then ends with every
result whole and every counter at zero.
-/
module

public import proofs.«01_k».proof.Proof.Body
public import Idealize.ShloMosaic.Lib.Pipeline.CollectiveSegs
public import Idealize.SL.ProofMode.BigOp

@[expose] public section

noncomputable section

namespace Cert.RingGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-! ## The counters and the tokens -/

/-- Different transfers have different send counters. -/
theorem sS_inj : Function.Injective sS := fun i j h => Option.some.inj ((sendAt_send i).symm.trans ((congrArg sendAt h).trans (sendAt_send j)))
/-- Different transfers have different receive counters. -/
theorem rS_inj : Function.Injective rS := fun i j h => Option.some.inj ((recvAt_recv i).symm.trans ((congrArg recvAt h).trans (recvAt_recv j)))
/-- No transfer's send counter is a receive counter. -/
theorem sS_ne_rS (i j : J) : sS i ≠ rS j := fun h => by
  have := (recvAt_send i).symm.trans ((congrArg recvAt h).trans (recvAt_recv j)); exact absurd this (by simp)

/-- The kernel's own counters are all different. -/
theorem osem_inj : Function.Injective osem := by
  have d : ∀ {p q : DmaSem sig}, (SemLoc.dma p : SemLoc sig) = .dma q → p = q := fun h => SemLoc.dma.inj h
  rintro (⟨⟩ | i | i) (⟨⟩ | j | j) h <;> have h' := d h
  · rfl
  · exact absurd h'.symm (send_ne_copy j)
  · exact absurd h'.symm (recv_ne_copy j)
  · exact absurd h' (send_ne_copy i)
  · rw [sS_inj h']
  · exact absurd h' (sS_ne_rS i j)
  · exact absurd h' (recv_ne_copy i)
  · exact absurd h'.symm (sS_ne_rS j i)
  · rw [rS_inj h']

/-- The kernel's own counters live as long as the kernel does. -/
theorem osem_scoped : ∀ k, (osem k).isScoped .tc = true := by decide +kernel
/-- None of the kernel's own counters is one of the pipeline's. -/
theorem osem_disj : ∀ k w s, osem k ≠ .dma ((cfg0.spec w).sem s) := by decide +kernel
/-- The kernel's own counters are its own: they end with it, differ, and are apart from the pipeline's. -/
theorem ownSemFacts : Pipeline.OwnSemFacts cfg0.spec osem := ⟨osem_scoped, osem_inj, osem_disj⟩

/-- None of the kernel's own counters is the barrier. -/
theorem osem_ne_bar (k : Slot) : osem k ≠ .reg barS := by rcases k with ⟨⟩ | j | j <;> exact fun h => by cases h

/-- The barrier and the kernel's own counters are all different. -/
theorem csem_inj : Function.Injective csem := by
  rintro (⟨⟩ | k) (⟨⟩ | k') h
  · rfl
  · exact absurd h.symm (osem_ne_bar k')
  · exact absurd h (osem_ne_bar k)
  · rw [osem_inj h]

/-- Counters of different devices, or with different names, are different. -/
theorem kcell_injective : Function.Injective (kcell : Dev nD × (Unit ⊕ Slot) → GSem nD τ sig) := by
  rintro ⟨c, k⟩ ⟨c', k'⟩ h
  have h1 : c = c' := congrArg (fun g : GSem nD τ sig => g.1.1) h
  have h2 : k = k' := csem_inj (congrArg Prod.snd h)
  rw [h1, h2]
/-- All the counters of all the devices that the proof follows. -/
def ringCells : Finset (GSem nD τ sig) := Finset.univ.map ⟨kcell, kcell_injective⟩

/-- The rights to pay a device's own counters: its barrier's two, one for each of the others. -/
abbrev tokOf (ct : Dev nD × (Bool ⊕ Slot)) : GSem nD τ sig × ℕ × Bool :=
  match ct.2 with
  | .inl b => (barCell ct.1, 0, b)
  | .inr k => (kcell (ct.1, .inr k), 0, false)
/-- Different rights to pay are kept apart. -/
theorem tokOf_injective : Function.Injective tokOf := by
  rintro ⟨c, t⟩ ⟨c', t'⟩ h
  have h1 : c = c' := by
    have := congrArg (fun x : GSem nD τ sig × ℕ × Bool => x.1.1.1) h
    rcases t with b | k <;> rcases t' with b' | k' <;> exact this
  have h2 := congrArg (fun x : GSem nD τ sig × ℕ × Bool => x.1.2) h
  have h3 := congrArg (fun x : GSem nD τ sig × ℕ × Bool => x.2.2) h
  have h4 : t = t' := by
    rcases t with b | k <;> rcases t' with b' | k'
    · exact congrArg Sum.inl h3
    · exact absurd h2.symm (osem_ne_bar k')
    · exact absurd h2 (osem_ne_bar k)
    · exact congrArg Sum.inr (osem_inj h2)
  rw [h1, h4]
/-- All the rights to pay, of all the devices. -/
def ringToks : Finset (GSem nD τ sig × ℕ × Bool) := Finset.univ.map ⟨tokOf, tokOf_injective⟩

/-- The ghost state at launch: the pipeline's and the ring's. -/
def u₀ : UU := (initOf (Pipeline.cells cfgs cellOf_inj) (Pipeline.launchToks cfgs cellOf_inj), initOf ringCells ringToks)

/-- The rights to pay a device's own counters, one by one. -/
def toks (c : Dev nD) : sProp 𝕄 :=
  iprop(dutyTok ER (barCell c) 0 false ∗ dutyTok ER (barCell c) 0 true ∗ dutyTok ER (copyCell c) 0 false
    ∗ (bigSep Finset.univ fun j => dutyTok ER (sendCell c j) 0 false) ∗ bigSep Finset.univ fun j => dutyTok ER (recvCell c j) 0 false)

/-- What the launch makes for a device's counters. -/
def G (c : Dev nD) : sProp 𝕄 :=
  iprop((bigSep Finset.univ fun k : Unit ⊕ Slot => roundState ER (ringRd m ρ) (kcell (c, k)) 0)
    ∗ (bigSep Finset.univ fun k : Unit ⊕ Slot => iprop(atPos ER (kcell (c, k)) 0 ∅ 0 ∗ reached ER (kcell (c, k)) 0)) ∗ toks c)

omit [FloatOps F] in
/-- Something for each of the kernel's own counters, spelled out. -/
theorem bigSep_slots (Φ : Slot → sProp 𝕄) :
    bigSep Finset.univ Φ = iprop(Φ (.inl ()) ∗ (bigSep Finset.univ fun j => Φ (.inr (.inl j))) ∗ bigSep Finset.univ fun j => Φ (.inr (.inr j))) := by
  rw [bigSep_univ_sum Φ, bigSep_univ_sum (fun b => Φ (.inr b)), bigSep_univ_eq_bigSepL [()] (by decide) (by decide) (fun a => Φ (.inl a))]; rfl
omit [FloatOps F] in
/-- The same with the barrier. -/
theorem bigSep_counters (Φ : Unit ⊕ Slot → sProp 𝕄) :
    bigSep Finset.univ Φ = iprop(Φ (.inl ()) ∗ bigSep Finset.univ fun k => Φ (.inr k)) := by
  rw [bigSep_univ_sum Φ, bigSep_univ_eq_bigSepL [()] (by decide) (by decide) (fun a => Φ (.inl a))]; rfl

omit [FloatOps F] in
/-- The launch's ghost state is every device's share of it. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Unit ⊕ Slot => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    rw [bigSep_univ_sum, bigSep_slots, bigSep_univ_eq_bigSepL [false, true] (by decide) (by decide)]
    unfold toks
    exact BI.equiv_iff.mp ⟨BI.sep_assoc, BI.sep_assoc'⟩
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier is the only counter that outlives the kernel. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
/-- At launch every counter that the proof follows stands at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Unit ⊕ Slot => semVal (kcell (c, k)) 0 : sProp 𝕄) := by
  rw [unscopedSems0_eq, bigSep_counters]
  unfold Pipeline.ownSems0
  iintro ⟨HO, HB⟩
  isplitl [HB] <;> iassumption

omit [FloatOps F] in
/-- A device's counters, at zero, become invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Unit ⊕ Slot => semVal (kcell (c, k)) 0) ∗ bigSep Finset.univ fun k : Unit ⊕ Slot => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens -/

/-- One step to the right, as a bijection of the devices. -/
def turn : Dev nD ≃ Dev nD := ⟨right, left, left_right, right_left⟩
/-- The device transfer `j` goes to, as a bijection of the devices. -/
def target (j : J) : Dev nD ≃ Dev nD := ⟨fun c => dst c j, fun c => src c j, fun c => src_dst c j, fun c => dst_src c j⟩

omit [FloatOps F] in
/-- Each right to pay goes to the device that pays: a barrier's to the two neighbours, a receive counter's to the sender. -/
theorem toks_around : (bigSep Finset.univ fun c : Dev nD => (toks c : sProp 𝕄)) ⊢ bigSep Finset.univ fun c : Dev nD => payToks c := by
  have hrecv : (bigSep Finset.univ fun c : Dev nD => bigSep Finset.univ fun j : J => (dutyTok ER (recvCell c j) 0 false : sProp 𝕄))
      = bigSep Finset.univ fun c : Dev nD => bigSep Finset.univ fun j : J => dutyTok ER (recvCell (dst c j) j) 0 false := by
    rw [Pipeline.bigSep_univ_comm, Pipeline.bigSep_univ_comm (fun (c : Dev nD) (j : J) => (dutyTok ER (recvCell (dst c j) j) 0 false : sProp 𝕄))]
    exact bigSep_congr fun j _ => bigSep_univ_equiv (target j) (fun c : Dev nD => (dutyTok ER (recvCell c j) 0 false : sProp 𝕄))
  unfold toks payToks
  rw [bigSep_sep', bigSep_sep', bigSep_sep', bigSep_sep', bigSep_sep', bigSep_sep', bigSep_sep', bigSep_sep', hrecv,
    bigSep_univ_equiv turn (fun c : Dev nD => (dutyTok ER (barCell c) 0 false : sProp 𝕄)),
    bigSep_univ_equiv turn.symm (fun c : Dev nD => (dutyTok ER (barCell c) 0 true : sProp 𝕄))]
  iintro ⟨H1, H2, H3⟩
  isplitl [H2]; · iexact H2
  isplitl [H1]; · iexact H1
  iexact H3

omit [FloatOps F] in
/-- A device's places in the rounds of its counters, with its rights to pay, are what it starts with for itself alone. -/
theorem linear_intro (c : Dev nD) :
    iprop((bigSep Finset.univ fun k : Unit ⊕ Slot => (atPos ER (kcell (c, k)) 0 ∅ 0 : sProp 𝕄)) ∗ payToks c) ⊢ linear c := by
  unfold linear; rw [bigSep_counters, bigSep_slots]

omit [FloatOps F] in
/-- The invariants become the shared records, and each device keeps its places and its rights to pay. -/
theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (ghost m ρ) := by
  rw [bigSep_sep', bigSep_sep', ← bigSep_univ_prod (fun ck : Dev nD × (Unit ⊕ Slot) => iprop(∃ κ : ℕ, cellInv ER (ringRd m ρ) κ (kcell ck))),
    bigSep_congr (s := Finset.univ) (fun (c : Dev nD) _ => bigSep_sep' Finset.univ (fun k : Unit ⊕ Slot => (atPos ER (kcell (c, k)) 0 ∅ 0 : sProp 𝕄)) (fun k => reached ER (kcell (c, k)) 0)),
    bigSep_sep', ← bigSep_univ_prod (fun ck : Dev nD × (Unit ⊕ Slot) => (reached ER (kcell ck) 0 : sProp 𝕄))]
  iintro ⟨HI, ⟨Hat, #HR⟩, Htok⟩
  ihave HK := (BI.bigSep_exists_pi Finset.univ (fun (ck : Dev nD × (Unit ⊕ Slot)) (κ : ℕ) => (cellInv ER (ringRd m ρ) κ (kcell ck) : sProp 𝕄))) $$ HI
  icases HK with ⟨%K, #HI⟩
  ihave Htk := (toks_around (F := F)) $$ Htok
  iapply (bigSep_with_persistent (R := records m ρ K) (Φ := linear) (Ψ := ghost m ρ) fun c _ => show iprop(records m ρ K ∗ linear c) ⊢ ghost m ρ c from by
    unfold ghost; iintro H; iexists K; iexact H)
  isplitr
  · unfold records; isplitl; · iexact HI
    iexact HR
  · iapply ((Entails.of_eq (bigSep_sep' Finset.univ (fun c : Dev nD => bigSep Finset.univ fun k : Unit ⊕ Slot => (atPos ER (kcell (c, k)) 0 ∅ 0 : sProp 𝕄)) payToks).symm).trans
      (bigSep_mono fun c _ => linear_intro c))
    isplitl [Hat]; · iexact Hat
    iexact Htk

omit [FloatOps F] in
/-- The counters of all the devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (ghost m ρ) :=
  ((bigSep_mono fun c _ => core_alloc m ρ c).trans (bigSep_fupd _ _)).trans (BI.fupd_mono (regroup m ρ))

/-! ## The launch's credit -/

/-- Equal counters belong to the same device. -/
theorem cell_dev {a b : Dev nD} {s s' : SemLoc sig} (h : (((a : Thread nD τ), s) : GSem nD τ sig) = ((b : Thread nD τ), s')) : a = b :=
  congrArg (fun g : GSem nD τ sig => g.1.1) h
/-- Two barriers are the same just when their devices are. -/
theorem bar_eq_iff {a b : Dev nD} : (barCell a = barCell b) ↔ a = b := ⟨cell_dev, fun h => h ▸ rfl⟩
/-- No receive counter is a barrier. -/
theorem recv_ne_bar (a b : Dev nD) (j : J) : recvCell a j ≠ barCell b := fun h => by have := congrArg Prod.snd h; cases this

/-- A device's transfers owe nothing to any barrier. -/
theorem owed_at_bar (d c : Dev nD) (S : Finset J) : owed d S (barCell c) () = 0 :=
  Nat.eq_zero_of_not_pos fun h => by obtain ⟨j, _, e⟩ := owed_pos h; exact recv_ne_bar _ _ _ e.symm
/-- What device `d` owes the barrier of `c` at launch: a unit for each side of `c` that it is on. -/
theorem O₀_bar (d c : Dev nD) : O₀ d (barCell c) () = (if d = left c then 1 else 0) + (if d = right c then 1 else 0) := by
  have hl : (barCell c = barCell (right d)) ↔ d = left c :=
    bar_eq_iff.trans ⟨fun h => by rw [h, left_right], fun h => by rw [h, right_left]⟩
  have hr : (barCell c = barCell (left d)) ↔ d = right c :=
    bar_eq_iff.trans ⟨fun h => by rw [h, right_left], fun h => by rw [h, left_right]⟩
  unfold O₀ O₁
  rw [Pi.add_apply, Finsupp.add_apply, Pi.add_apply, Finsupp.add_apply, owed_at_bar, tallyAt_apply, tallyAt_apply, Nat.zero_add]
  simp only [hl, hr, and_true]

/-- What a device owes the receive counter of transfer `j`: its own transfer `j`, if that is where it goes. -/
theorem O₀_recv (d c : Dev nD) (j : J) : O₀ d (recvCell c j) () = if d = src c j then N else 0 := by
  have hrest : owed d (Finset.univ.erase j) (recvCell c j) () = 0 := Nat.eq_zero_of_not_pos fun h => by
    obtain ⟨i, hi, e⟩ := owed_pos h
    exact (Finset.mem_erase.mp hi).1 (rS_inj (SemLoc.dma.inj (congrArg Prod.snd e))).symm
  have he : (recvCell c j = recvCell (dst d j) j) ↔ d = src c j :=
    ⟨fun h => by rw [cell_dev h, src_dst], fun h => by rw [h, dst_src]⟩
  unfold O₀ O₁
  rw [Pi.add_apply, Finsupp.add_apply, Pi.add_apply, Finsupp.add_apply, tallyAt_ne_cell (recv_ne_bar _ _ _), tallyAt_ne_cell (recv_ne_bar _ _ _),
    ← Finset.insert_erase (Finset.mem_univ j), owed_insert _ _ _ (Finset.notMem_erase j _), Pi.add_apply, Finsupp.add_apply, hrest, tallyAt_apply]
  simp only [he, and_true, Finsupp.zero_apply, Nat.zero_add, Nat.add_zero]

/-- A barrier's credit at launch is two units, one from each neighbour. -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => O₀_bar d c, Finset.sum_add_distrib,
    Finset.sum_ite_eq' Finset.univ (left c) fun _ => 1, Finset.sum_ite_eq' Finset.univ (right c) fun _ => 1, if_pos (Finset.mem_univ _), if_pos (Finset.mem_univ _)]

/-- A receive counter's credit at launch is one transfer's. -/
theorem launch_recv (c : Dev nD) (j : J) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => O₀_recv d c j, Finset.sum_ite_eq' Finset.univ (src c j) fun _ => N,
    if_pos (Finset.mem_univ _)]

/-- The receive counters among all. -/
def recvSem : J ↪ SemLoc sig := ⟨fun j => .dma (rS j), fun _ _ h => rS_inj (SemLoc.dma.inj h)⟩

omit [FloatOps F] in
/-- Each device has credit for two signals and for every transfer it receives. -/
theorem creds (c : Dev nD) : (Pipeline.launchCred O₀ c : sProp 𝕄) ⊢ credits c := by
  have e : (bigSep Finset.univ fun j : J => (cred (tallyAt (recvCell c j) () N) : sProp 𝕄))
      = bigSep (Finset.univ.map recvSem) fun s : SemLoc sig => cred (tallyOn ((c : Thread nD τ), s) (launchCredit (Pipeline.owing O₀) 0 ((c : Thread nD τ), s))) := by
    rw [bigSep_map]
    exact bigSep_congr fun j _ => by rw [← launch_recv]; rfl
  unfold Pipeline.launchCred credits
  rw [bigSep_univ_at _ (SemLoc.reg barS), launch_bar, e]
  refine sep_mono_right (bigSep_subset fun s hs => ?_)
  obtain ⟨j, -, rfl⟩ := Finset.mem_map.mp hs
  exact Finset.mem_erase.mpr ⟨fun h => (by cases h), Finset.mem_univ _⟩

/-! ## The launch's conditions -/

omit [FloatOps F] in
/-- What a device has after the launch is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m ρ c)
      ⊢ |={Set.univ}=> iprop(start m ρ c ∗ emp) := by
  rw [Pipeline.unscopedRestP_none, show cfg0.spec = spec0 from rfl, unscopedRest0_eq]
  iintro ⟨Ho, Hlev, Hcr, -, HG⟩
  ihave Hc := (creds (F := F) c) $$ Hcr
  imodintro
  unfold start pts
  isplitl
  · isplitl [HG]; · iexact HG
    isplitl [Hc]; · iexact Hc
    isplitl [Hlev]; · iexact Hlev
    iexists (m ((c : Thread nD τ).loc main_v1)); iexact Ho
  · iempintro

/-- With the scratch, whatever it holds, it is what the pipeline hands the body. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, show cfg0.spec = spec0 from rfl, scopedRest0_eq]
  unfold Φ₀
  iintro ⟨Hs, -, Hr⟩
  isplitl [Hs] <;> iassumption

/-- What the body leaves is the result holding all the blocks, the scratch, and every counter at zero. -/
theorem phi1_exit (c : Dev nD) :
    (dats m ρ 0 c).Φ (Fin.last cfg0.N) ⊢ iprop((unscopedSems0 c ∗ pts c Finset.univ (gath m ρ)) ∗ Pipeline.ownSems0 osem c ∗ Pipeline.scopedRest cfg0.spec c) := by
  rw [show (dats m ρ 0 c).Φ (Fin.last cfg0.N) = Φ₁ m ρ c from rfl, show cfg0.spec = spec0 from rfl, scopedRest0_eq, unscopedSems0_eq]
  unfold Φ₁ Pipeline.ownSems0
  rw [bigSep_slots]
  iintro ⟨Hr, Ho, HzB, HzC, HzS, HzV⟩
  isplitl [HzB Ho]
  · isplitl [HzB] <;> iassumption
  isplitl [HzC HzS HzV]
  · isplitl [HzC]; · iexact HzC
    isplitl [HzS] <;> iassumption
  iexact Hr

/-- No counter of the pipeline's is a receive counter. -/
theorem stage_sem : ∀ w s, recvAt ((cfg0.win w).sem s) = none := by decide +kernel

/-- The pipeline's own waits are in order. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_sem w s) _ (by
      rcases t with ⟨_ | _, ht⟩
      · exact Or.inl rfl
      · exact Or.inr rfl)

/-- The pipeline holds its buffers in full. -/
theorem share_eq (c : Dev nD) (w : Fin cfg0.W) : (dats m ρ 0 c).share w = fullShare := by unfold Dat.share; split <;> rfl

/-! ## The run -/

/-- After the run every result holds all the blocks and every argument what it held. -/
def Done (s : MemSt nD τ sig (Elt F)) : Prop :=
  ∀ c : Dev nD, s.mem ((c : Thread nD τ).loc main_v1) = gath m ρ ∧ s.mem ((c : Thread nD τ).loc main_arg0) = m ((c : Thread nD τ).loc main_arg0)

/-- From any memory with its counters at zero, every fair execution of the sixteen devices ends, with every result holding
    all the blocks, every argument unchanged and every counter at zero. -/
theorem run_main : θ_run defs (onTc (τ := τ) (main (F := F))) (s₀ m ρ) (fun r => Done m ρ r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w; exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := ghost m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => iprop(unscopedSems0 c ∗ pts c Finset.univ (gath m ρ))) (Z := fun _ => iprop(emp))
    (hX := start_intro m ρ) (hin := phi0_intro m ρ) (hout := phi1_exit m ρ)
    (QY := fun c s => s.mem ((c : Thread nD τ).loc main_v1) = gath m ρ ∧ ∀ sm : SemLoc sig, sm.isScoped .tc = false → s.sem ((c.tc : Thread nD τ), sm) = 0)
    (hY := fun c s' => by
      unfold pts
      iintro ⟨⟨Hu, Ho⟩, -, HSI⟩
      icombine HSI Ho gives %h
      imod (Pipeline.unscopedSems0_read (X := unscopedSems0 c) (c := c) fupd_intro s') $$ [Hu HSI] with ⟨%hz, HSI⟩
      · isplitl [Hu] <;> iassumption
      imodintro
      isplitr
      · ipureintro; exact ⟨Buf.eq_of_forall_mem_univ h, hz⟩
      iexact HSI)
    (hQ := fun _ h hs => ⟨fun c => ⟨(h c).2.2.1, ((h c).1 (0 : Fin 1)).trans ((dats (F := F) m ρ 0 c).arrAt_in (0 : Fin 1) rfl _)⟩, sem_eq_zero hs fun c => (h c).2.2.2⟩)

end Cert.RingGather

end
-- ==== Proof.Value.lean ====
/-
# The value

The blocks one below another are the whole array the reference returns.
-/
module

public import proofs.«01_k».proof.Proof.Launch
public import Idealize.ShloMosaic.Lib.Layout

@[expose] public section

noncomputable section

namespace Cert.RingGather

open Cert.KernelIdeal Cert.KernelIdeal.Gen
open Idealize.ShloMosaic Idealize.ShloMosaic.TcCoe

variable {F : FTy → Type} [FloatOps F]
variable (m : (ℓ : Loc nD τ sig) → Buf (Elt F) ℓ) (ρ : Dev nD → PrngReg)

omit [FloatOps F] in
/-- The block staged on a device is its argument. -/
theorem xstg_eq (c : Dev nD) : xstg m ρ c = m ((c : Thread nD τ).loc main_arg0) := by
  funext j
  show m ((c : Thread nD τ).loc main_arg0) _ = m ((c : Thread nD τ).loc main_arg0) j
  refine congrArg _ (funext fun a => Fin.ext ?_)
  rcases a with ⟨_ | _ | n, h⟩
  · show 0 * 2048 + 1 * (j 0).val = (j 0).val
    omega
  · show 0 * 512 + 1 * (j 1).val = (j 1).val
    omega
  · exact absurd h (by show ¬ n + 2 < 2; omega)

/-- Row `i` of the array is row `inBlk i` of block `ofBlk i`. -/
theorem idx_ofBlk (h : Layout.Tiles ⟨2, ![2048, 512]⟩ ⟨2, ![32768, 512]⟩ 0 16) (i : S32768x512.Idx) : h.idx (ofBlk i) (inBlk i) = i := by
  funext a
  refine Fin.ext ?_
  rcases a with ⟨_ | _ | n, ha⟩
  · show (i 0).val / 2048 * 2048 + (i 0).val % 2048 = (i 0).val
    omega
  · rfl
  · exact absurd ha (by simp)

omit [FloatOps F] in
/-- If every device's argument is its block of an array, the blocks one below another are the array. -/
theorem gath_whole (X : (main_v1 : Ref sig .tc).ty.Contents (Elt F)) (h : Layout.Tiles ⟨2, ![2048, 512]⟩ ⟨2, ![32768, 512]⟩ 0 16)
    (hm : ∀ c : Dev nD, m ((c : Thread nD τ).loc main_arg0) = Layout.block ⟨2, ![2048, 512]⟩ ⟨2, ![32768, 512]⟩ 0 16 c X h) : gath m ρ = X := by
  funext i
  show xstg m ρ (ofBlk i) (inBlk i) = X i
  rw [xstg_eq, hm]
  exact congrArg X (idx_ofBlk h i)

end Cert.RingGather

end
-- ==== Proof.lean ====
/-
# The claims

Both printed programs of the kernel run as `run_main` says; the reference runs nothing and returns its argument; and what the
kernel leaves in every result is that argument, put together from the devices' blocks.
-/
module

public import proofs.«01_k».proof.Defs
public import proofs.«01_k».proof.Proof.Value
public import proofs.«01_k».proof.Proof.Gen.Kernel
public import proofs.«01_k».proof.Proof.Gen.ReferenceIdeal
public import Idealize.ShloMosaic.Lib.StableHlo.Run
public import Idealize.ShloMosaic.Lib.Quiescent
public import Idealize.ShloMosaic.Adequacy
public import Idealize.ShloMosaic.Init

@[expose] public section

noncomputable section

namespace Cert.Proof

open Idealize.ShloMosaic Idealize.SL.Sem

/-- The facts about the printed kernel's text, as found for it. -/
local instance : Cert.Kernel.Facts := Cert.Kernel.Gen.facts
/-- The same facts about the ideal kernel's text. -/
local instance : Cert.KernelIdeal.Facts := Cert.KernelIdeal.Gen.facts

/-- The two printed programs have the same body at every label. -/
theorem defs₀_same : Cert.Kernel.defs₀ (F := Bits) = Cert.KernelIdeal.defs₀ (F := Bits) := by
  refine congrArg Defs.onTc (a₁ := _) (a₂ := _) ?_
  funext l x
  match l, x with
  | 0, (t, s) => exact rfl

/-- So they have the same bodies. -/
theorem defs_same : Cert.Kernel.defs (F := Bits) = Cert.KernelIdeal.defs (F := Bits) :=
  congrArg (Pipeline.defs (Cert.KernelIdeal.pcfgs (F := Bits))) defs₀_same

/-- The kernel as printed ends, with its arguments unchanged and its counters at zero. -/
theorem quiescent_kernel : Cert.quiescent_Kernel (hKernel := Cert.Kernel.Gen.facts) := fun m g _ => by
  rw [defs_same]
  exact (θ_run (Cert.KernelIdeal.defs (F := Bits)) (onTc (τ := Cert.KernelIdeal.τ) (Cert.KernelIdeal.main (F := Bits))) ⟨m, fun _ => 0, g⟩).mono
    (fun _ h => ⟨fun c => (h.1 c).2, h.2⟩) (Cert.RingGather.run_main (F := Bits) m g)

/-- So does its idealization. -/
theorem quiescent_ideal : Cert.quiescent_KernelIdeal (hKernelIdeal := Cert.KernelIdeal.Gen.facts) := fun m g _ =>
  (θ_run _ _ _).mono (fun _ h => ⟨fun c => (h.1 c).2, h.2⟩) (Cert.RingGather.run_main (F := Ideal) m g)

/-- The reference does nothing: it ends in the state it starts from. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD, r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)) ∧ r.2.sem = fun _ => 0) :=
  (θ_run _ _ _).mono (fun r h => ⟨fun c => h c Cert.ReferenceIdeal.main_arg0, sem_eq_zero_of_no_sems rfl r.2⟩)
    (StableHlo.run_seq (by decide) (by decide) Cert.ReferenceIdeal.defs Cert.ReferenceIdeal.main (fun _ => []) (fun _ => rfl) (fun _ => trivial) m g)

/-- So the reference ends too. -/
theorem quiescent_reference : Cert.quiescent_ReferenceIdeal (hReferenceIdeal := Cert.ReferenceIdeal.Gen.facts) := fun m g _ =>
  reference_run m g

/-- Every device's result is the reference's: the whole array. -/
theorem algebraic : Cert.algebraic_KernelIdeal_ReferenceIdeal (hKernelIdeal := Cert.KernelIdeal.Gen.facts) (hReferenceIdeal := Cert.ReferenceIdeal.Gen.facts) :=
  fun m g m' g' _ hm => ⟨_,
    (θ_run _ _ _).mono (fun _ h c => ⟨((h.1 c).1).trans (Cert.RingGather.gath_whole m g _ (by decide) hm), (h.1 c).2⟩) (Cert.RingGather.run_main (F := Ideal) m g),
    (θ_run _ _ _).mono (fun _ h => ⟨h.1 0, h.1 0⟩) (reference_run m' g')⟩

/-- All the claims. -/
theorem claim : Cert.Claim := ⟨Cert.Kernel.Gen.facts, Cert.KernelIdeal.Gen.facts, Cert.ReferenceIdeal.Gen.facts,
  quiescent_kernel, quiescent_ideal, quiescent_reference, trivial, algebraic⟩

end Cert.Proof

end
